-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 512]⟩ ⟨2, ![64, 16384]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1024]⟩ ⟨2, ![16384, 1024]⟩ 0 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 1024]⟩ ⟨2, ![16384, 1024]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 1024]⟩ ⟨2, ![16384, 1024]⟩ 0 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 512]⟩ ⟨2, ![1024, 16384]⟩ 1 32 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![1024, 512]⟩ ⟨2, ![1024, 16384]⟩ 1 32 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![1024, 512]⟩ ⟨2, ![1024, 16384]⟩ 1 32 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 512]⟩ ⟨2, ![64, 16384]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x512 : Shape := ⟨2, ![64, 512]⟩
abbrev S512x1024 : Shape := ⟨2, ![512, 1024]⟩
abbrev S1024x512 : Shape := ⟨2, ![1024, 512]⟩
abbrev S2x64x512 : Shape := ⟨3, ![2, 64, 512]⟩
abbrev S30x64x512 : Shape := ⟨3, ![30, 64, 512]⟩
abbrev S30 : Shape := ⟨1, ![30]⟩
abbrev S_ : Shape := ⟨0, ![]⟩
abbrev S512x512 : Shape := ⟨2, ![512, 512]⟩
abbrev S1x64x512 : Shape := ⟨3, ![1, 64, 512]⟩
abbrev S1 : Shape := ⟨1, ![1]⟩

abbrev nBuf : Space → Nat
  | .hbm => 8
  | .vmem => 11
  | .smem => 0
  | _ => 0

abbrev bufTy : (tb : Table) → Fin (tcTables nBuf tb) → BufTy
  | .hbm, ⟨0, _⟩ => ⟨S64x512, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S64x512, .f32⟩
  | .local _ .vmem, ⟨0, _⟩ => ⟨S64x512, .f32⟩
  | .local _ .vmem, ⟨1, _⟩ => ⟨S512x1024, .f32⟩
  | .local _ .vmem, ⟨2, _⟩ => ⟨S1024x512, .f32⟩
  | .local _ .vmem, ⟨3, _⟩ => ⟨S512x1024, .f32⟩
  | .local _ .vmem, ⟨4, _⟩ => ⟨S1024x512, .f32⟩
  | .local _ .vmem, ⟨5, _⟩ => ⟨S512x1024, .f32⟩
  | .local _ .vmem, ⟨6, _⟩ => ⟨S1024x512, .f32⟩
  | .local _ .vmem, ⟨7, _⟩ => ⟨S64x512, .f32⟩
  | .local _ .vmem, ⟨8, _⟩ => ⟨S2x64x512, .f32⟩
  | .local _ .vmem, ⟨9, _⟩ => ⟨S2x64x512, .bf16⟩
  | .local _ .vmem, ⟨10, _⟩ => ⟨S30x64x512, .bf16⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_86 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_31 : BitVec 32 := 0#32
  let v70 : BitVec 32 := Scalar.xori v19 c0_i32_31
  let c8_i32_32 : BitVec 32 := 8#32
  let v71 : BitVec 32 := Scalar.muli v70 c8_i32_32
  let c2_i32_33 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_30 : BitVec 32 := 0#32
  let v69 : BitVec 32 := Scalar.xori v46 c0_i32_30
  let v72 : BitVec 32 := Scalar.muli c2_i32_33 v69
  let v73 : BitVec 32 := Scalar.addi v71 v72
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c1_i32_29 : BitVec 32 := 1#32
  let v68 : BitVec 32 := Scalar.xori v67 c1_i32_29
  let c2_i32_34 : BitVec 32 := 2#32
  let c0_i32_35 : BitVec 32 := 0#32
  let v74 : BitVec 1 := Scalar.cmpi .eq c2_i32_34 c0_i32_35
  let c1_i32_36 : BitVec 32 := 1#32
  let v75 : BitVec 32 := Scalar.select v74 c1_i32_36 c2_i32_34
  let v76 : BitVec 32 := Scalar.remsi v69 v75
  let c0_i32_38 : BitVec 32 := 0#32
  let v78 : BitVec 1 := Scalar.cmpi .slt v76 c0_i32_38
  let c0_i32_39 : BitVec 32 := 0#32
  let v79 : BitVec 1 := Scalar.cmpi .slt v75 c0_i32_39
  let v80 : BitVec 1 := Scalar.xori v78 v79
  let c0_i32_37 : BitVec 32 := 0#32
  let v77 : BitVec 1 := Scalar.cmpi .ne v76 c0_i32_37
  let v81 : BitVec 1 := Scalar.andi v80 v77
  let v82 : BitVec 32 := Scalar.addi v76 v75
  let v83 : BitVec 32 := Scalar.select v81 v82 v76
  let v84 : BitVec 32 := Scalar.xori v68 v83
  let v85 : BitVec 32 := Scalar.addi v73 v84
  let c1_i32_85 : BitVec 32 := 1#32
  let v159 : BitVec 32 := Scalar.muli v85 c1_i32_85
  let v160 : BitVec 32 := Scalar.addi c0_i32_86 v159
  v160.toNat
def k0_dev2 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_42 : BitVec 32 := 0#32
  let v88 : BitVec 32 := Scalar.xori v19 c0_i32_42
  let c8_i32_43 : BitVec 32 := 8#32
  let v89 : BitVec 32 := Scalar.muli v88 c8_i32_43
  let c2_i32_44 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v87 : BitVec 32 := Scalar.xori v46 c1_i32_41
  let v90 : BitVec 32 := Scalar.muli c2_i32_44 v87
  let v91 : BitVec 32 := Scalar.addi v89 v90
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_40 : BitVec 32 := 0#32
  let v86 : BitVec 32 := Scalar.xori v67 c0_i32_40
  let c2_i32_45 : BitVec 32 := 2#32
  let c0_i32_46 : BitVec 32 := 0#32
  let v92 : BitVec 1 := Scalar.cmpi .eq c2_i32_45 c0_i32_46
  let c1_i32_47 : BitVec 32 := 1#32
  let v93 : BitVec 32 := Scalar.select v92 c1_i32_47 c2_i32_45
  let v94 : BitVec 32 := Scalar.remsi v87 v93
  let c0_i32_49 : BitVec 32 := 0#32
  let v96 : BitVec 1 := Scalar.cmpi .slt v94 c0_i32_49
  let c0_i32_50 : BitVec 32 := 0#32
  let v97 : BitVec 1 := Scalar.cmpi .slt v93 c0_i32_50
  let v98 : BitVec 1 := Scalar.xori v96 v97
  let c0_i32_48 : BitVec 32 := 0#32
  let v95 : BitVec 1 := Scalar.cmpi .ne v94 c0_i32_48
  let v99 : BitVec 1 := Scalar.andi v98 v95
  let v100 : BitVec 32 := Scalar.addi v94 v93
  let v101 : BitVec 32 := Scalar.select v99 v100 v94
  let v102 : BitVec 32 := Scalar.xori v86 v101
  let v103 : BitVec 32 := Scalar.addi v91 v102
  let c1_i32_88 : BitVec 32 := 1#32
  let v161 : BitVec 32 := Scalar.muli v103 c1_i32_88
  let v162 : BitVec 32 := Scalar.addi c0_i32_89 v161
  v162.toNat
def k0_dev3 (d0 : Dev nD) : Nat :=
  let c0_i32_92 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_53 : BitVec 32 := 0#32
  let v106 : BitVec 32 := Scalar.xori v19 c0_i32_53
  let c8_i32_54 : BitVec 32 := 8#32
  let v107 : BitVec 32 := Scalar.muli v106 c8_i32_54
  let c2_i32_55 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_52 : BitVec 32 := 2#32
  let v105 : BitVec 32 := Scalar.xori v46 c2_i32_52
  let v108 : BitVec 32 := Scalar.muli c2_i32_55 v105
  let v109 : BitVec 32 := Scalar.addi v107 v108
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_51 : BitVec 32 := 0#32
  let v104 : BitVec 32 := Scalar.xori v67 c0_i32_51
  let c2_i32_56 : BitVec 32 := 2#32
  let c0_i32_57 : BitVec 32 := 0#32
  let v110 : BitVec 1 := Scalar.cmpi .eq c2_i32_56 c0_i32_57
  let c1_i32_58 : BitVec 32 := 1#32
  let v111 : BitVec 32 := Scalar.select v110 c1_i32_58 c2_i32_56
  let v112 : BitVec 32 := Scalar.remsi v105 v111
  let c0_i32_60 : BitVec 32 := 0#32
  let v114 : BitVec 1 := Scalar.cmpi .slt v112 c0_i32_60
  let c0_i32_61 : BitVec 32 := 0#32
  let v115 : BitVec 1 := Scalar.cmpi .slt v111 c0_i32_61
  let v116 : BitVec 1 := Scalar.xori v114 v115
  let c0_i32_59 : BitVec 32 := 0#32
  let v113 : BitVec 1 := Scalar.cmpi .ne v112 c0_i32_59
  let v117 : BitVec 1 := Scalar.andi v116 v113
  let v118 : BitVec 32 := Scalar.addi v112 v111
  let v119 : BitVec 32 := Scalar.select v117 v118 v112
  let v120 : BitVec 32 := Scalar.xori v104 v119
  let v121 : BitVec 32 := Scalar.addi v109 v120
  let c1_i32_91 : BitVec 32 := 1#32
  let v163 : BitVec 32 := Scalar.muli v121 c1_i32_91
  let v164 : BitVec 32 := Scalar.addi c0_i32_92 v163
  v164.toNat
def k0_dev4 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_64 : BitVec 32 := 1#32
  let v124 : BitVec 32 := Scalar.xori v19 c1_i32_64
  let c8_i32_65 : BitVec 32 := 8#32
  let v125 : BitVec 32 := Scalar.muli v124 c8_i32_65
  let c2_i32_66 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_63 : BitVec 32 := 0#32
  let v123 : BitVec 32 := Scalar.xori v46 c0_i32_63
  let v126 : BitVec 32 := Scalar.muli c2_i32_66 v123
  let v127 : BitVec 32 := Scalar.addi v125 v126
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_62 : BitVec 32 := 0#32
  let v122 : BitVec 32 := Scalar.xori v67 c0_i32_62
  let c2_i32_67 : BitVec 32 := 2#32
  let c0_i32_68 : BitVec 32 := 0#32
  let v128 : BitVec 1 := Scalar.cmpi .eq c2_i32_67 c0_i32_68
  let c1_i32_69 : BitVec 32 := 1#32
  let v129 : BitVec 32 := Scalar.select v128 c1_i32_69 c2_i32_67
  let v130 : BitVec 32 := Scalar.remsi v123 v129
  let c0_i32_71 : BitVec 32 := 0#32
  let v132 : BitVec 1 := Scalar.cmpi .slt v130 c0_i32_71
  let c0_i32_72 : BitVec 32 := 0#32
  let v133 : BitVec 1 := Scalar.cmpi .slt v129 c0_i32_72
  let v134 : BitVec 1 := Scalar.xori v132 v133
  let c0_i32_70 : BitVec 32 := 0#32
  let v131 : BitVec 1 := Scalar.cmpi .ne v130 c0_i32_70
  let v135 : BitVec 1 := Scalar.andi v134 v131
  let v136 : BitVec 32 := Scalar.addi v130 v129
  let v137 : BitVec 32 := Scalar.select v135 v136 v130
  let v138 : BitVec 32 := Scalar.xori v122 v137
  let v139 : BitVec 32 := Scalar.addi v127 v138
  let c1_i32_94 : BitVec 32 := 1#32
  let v165 : BitVec 32 := Scalar.muli v139 c1_i32_94
  let v166 : BitVec 32 := Scalar.addi c0_i32_95 v165
  v166.toNat
def k0_dev5 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_75 : BitVec 32 := 2#32
  let v142 : BitVec 32 := Scalar.xori v19 c2_i32_75
  let c8_i32_76 : BitVec 32 := 8#32
  let v143 : BitVec 32 := Scalar.muli v142 c8_i32_76
  let c2_i32_77 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_74 : BitVec 32 := 0#32
  let v141 : BitVec 32 := Scalar.xori v46 c0_i32_74
  let v144 : BitVec 32 := Scalar.muli c2_i32_77 v141
  let v145 : BitVec 32 := Scalar.addi v143 v144
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_73 : BitVec 32 := 0#32
  let v140 : BitVec 32 := Scalar.xori v67 c0_i32_73
  let c2_i32_78 : BitVec 32 := 2#32
  let c0_i32_79 : BitVec 32 := 0#32
  let v146 : BitVec 1 := Scalar.cmpi .eq c2_i32_78 c0_i32_79
  let c1_i32_80 : BitVec 32 := 1#32
  let v147 : BitVec 32 := Scalar.select v146 c1_i32_80 c2_i32_78
  let v148 : BitVec 32 := Scalar.remsi v141 v147
  let c0_i32_82 : BitVec 32 := 0#32
  let v150 : BitVec 1 := Scalar.cmpi .slt v148 c0_i32_82
  let c0_i32_83 : BitVec 32 := 0#32
  let v151 : BitVec 1 := Scalar.cmpi .slt v147 c0_i32_83
  let v152 : BitVec 1 := Scalar.xori v150 v151
  let c0_i32_81 : BitVec 32 := 0#32
  let v149 : BitVec 1 := Scalar.cmpi .ne v148 c0_i32_81
  let v153 : BitVec 1 := Scalar.andi v152 v149
  let v154 : BitVec 32 := Scalar.addi v148 v147
  let v155 : BitVec 32 := Scalar.select v153 v154 v148
  let v156 : BitVec 32 := Scalar.xori v140 v155
  let v157 : BitVec 32 := Scalar.addi v145 v156
  let c1_i32_97 : BitVec 32 := 1#32
  let v167 : BitVec 32 := Scalar.muli v157 c1_i32_97
  let v168 : BitVec 32 := Scalar.addi c0_i32_98 v167
  v168.toNat
def k0_dev6 (d0 : Dev nD) : Nat :=
  let c0_i32_113 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_31 : BitVec 32 := 0#32
  let v70 : BitVec 32 := Scalar.xori v19 c0_i32_31
  let c8_i32_32 : BitVec 32 := 8#32
  let v71 : BitVec 32 := Scalar.muli v70 c8_i32_32
  let c2_i32_33 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_30 : BitVec 32 := 0#32
  let v69 : BitVec 32 := Scalar.xori v46 c0_i32_30
  let v72 : BitVec 32 := Scalar.muli c2_i32_33 v69
  let v73 : BitVec 32 := Scalar.addi v71 v72
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c1_i32_29 : BitVec 32 := 1#32
  let v68 : BitVec 32 := Scalar.xori v67 c1_i32_29
  let c2_i32_34 : BitVec 32 := 2#32
  let c0_i32_35 : BitVec 32 := 0#32
  let v74 : BitVec 1 := Scalar.cmpi .eq c2_i32_34 c0_i32_35
  let c1_i32_36 : BitVec 32 := 1#32
  let v75 : BitVec 32 := Scalar.select v74 c1_i32_36 c2_i32_34
  let v76 : BitVec 32 := Scalar.remsi v69 v75
  let c0_i32_38 : BitVec 32 := 0#32
  let v78 : BitVec 1 := Scalar.cmpi .slt v76 c0_i32_38
  let c0_i32_39 : BitVec 32 := 0#32
  let v79 : BitVec 1 := Scalar.cmpi .slt v75 c0_i32_39
  let v80 : BitVec 1 := Scalar.xori v78 v79
  let c0_i32_37 : BitVec 32 := 0#32
  let v77 : BitVec 1 := Scalar.cmpi .ne v76 c0_i32_37
  let v81 : BitVec 1 := Scalar.andi v80 v77
  let v82 : BitVec 32 := Scalar.addi v76 v75
  let v83 : BitVec 32 := Scalar.select v81 v82 v76
  let v84 : BitVec 32 := Scalar.xori v68 v83
  let v85 : BitVec 32 := Scalar.addi v73 v84
  let c1_i32_112 : BitVec 32 := 1#32
  let v181 : BitVec 32 := Scalar.muli v85 c1_i32_112
  let v182 : BitVec 32 := Scalar.addi c0_i32_113 v181
  v182.toNat
def k0_dev7 (d0 : Dev nD) : Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_64 : BitVec 32 := 1#32
  let v124 : BitVec 32 := Scalar.xori v19 c1_i32_64
  let c8_i32_65 : BitVec 32 := 8#32
  let v125 : BitVec 32 := Scalar.muli v124 c8_i32_65
  let c2_i32_66 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_63 : BitVec 32 := 0#32
  let v123 : BitVec 32 := Scalar.xori v46 c0_i32_63
  let v126 : BitVec 32 := Scalar.muli c2_i32_66 v123
  let v127 : BitVec 32 := Scalar.addi v125 v126
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_62 : BitVec 32 := 0#32
  let v122 : BitVec 32 := Scalar.xori v67 c0_i32_62
  let c2_i32_67 : BitVec 32 := 2#32
  let c0_i32_68 : BitVec 32 := 0#32
  let v128 : BitVec 1 := Scalar.cmpi .eq c2_i32_67 c0_i32_68
  let c1_i32_69 : BitVec 32 := 1#32
  let v129 : BitVec 32 := Scalar.select v128 c1_i32_69 c2_i32_67
  let v130 : BitVec 32 := Scalar.remsi v123 v129
  let c0_i32_71 : BitVec 32 := 0#32
  let v132 : BitVec 1 := Scalar.cmpi .slt v130 c0_i32_71
  let c0_i32_72 : BitVec 32 := 0#32
  let v133 : BitVec 1 := Scalar.cmpi .slt v129 c0_i32_72
  let v134 : BitVec 1 := Scalar.xori v132 v133
  let c0_i32_70 : BitVec 32 := 0#32
  let v131 : BitVec 1 := Scalar.cmpi .ne v130 c0_i32_70
  let v135 : BitVec 1 := Scalar.andi v134 v131
  let v136 : BitVec 32 := Scalar.addi v130 v129
  let v137 : BitVec 32 := Scalar.select v135 v136 v130
  let v138 : BitVec 32 := Scalar.xori v122 v137
  let v139 : BitVec 32 := Scalar.addi v127 v138
  let c1_i32_129 : BitVec 32 := 1#32
  let v201 : BitVec 32 := Scalar.muli v139 c1_i32_129
  let v202 : BitVec 32 := Scalar.addi c0_i32_130 v201
  v202.toNat
def k0_dev8 (d0 : Dev nD) : Nat :=
  let c0_i32_171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_42 : BitVec 32 := 0#32
  let v88 : BitVec 32 := Scalar.xori v19 c0_i32_42
  let c8_i32_43 : BitVec 32 := 8#32
  let v89 : BitVec 32 := Scalar.muli v88 c8_i32_43
  let c2_i32_44 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v87 : BitVec 32 := Scalar.xori v46 c1_i32_41
  let v90 : BitVec 32 := Scalar.muli c2_i32_44 v87
  let v91 : BitVec 32 := Scalar.addi v89 v90
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_40 : BitVec 32 := 0#32
  let v86 : BitVec 32 := Scalar.xori v67 c0_i32_40
  let c2_i32_45 : BitVec 32 := 2#32
  let c0_i32_46 : BitVec 32 := 0#32
  let v92 : BitVec 1 := Scalar.cmpi .eq c2_i32_45 c0_i32_46
  let c1_i32_47 : BitVec 32 := 1#32
  let v93 : BitVec 32 := Scalar.select v92 c1_i32_47 c2_i32_45
  let v94 : BitVec 32 := Scalar.remsi v87 v93
  let c0_i32_49 : BitVec 32 := 0#32
  let v96 : BitVec 1 := Scalar.cmpi .slt v94 c0_i32_49
  let c0_i32_50 : BitVec 32 := 0#32
  let v97 : BitVec 1 := Scalar.cmpi .slt v93 c0_i32_50
  let v98 : BitVec 1 := Scalar.xori v96 v97
  let c0_i32_48 : BitVec 32 := 0#32
  let v95 : BitVec 1 := Scalar.cmpi .ne v94 c0_i32_48
  let v99 : BitVec 1 := Scalar.andi v98 v95
  let v100 : BitVec 32 := Scalar.addi v94 v93
  let v101 : BitVec 32 := Scalar.select v99 v100 v94
  let v102 : BitVec 32 := Scalar.xori v86 v101
  let v103 : BitVec 32 := Scalar.addi v91 v102
  let c1_i32_170 : BitVec 32 := 1#32
  let v238 : BitVec 32 := Scalar.muli v103 c1_i32_170
  let v239 : BitVec 32 := Scalar.addi c0_i32_171 v238
  v239.toNat
def k0_dev9 (d0 : Dev nD) : Nat :=
  let c0_i32_211 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_31 : BitVec 32 := 0#32
  let v70 : BitVec 32 := Scalar.xori v19 c0_i32_31
  let c8_i32_32 : BitVec 32 := 8#32
  let v71 : BitVec 32 := Scalar.muli v70 c8_i32_32
  let c2_i32_33 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_30 : BitVec 32 := 0#32
  let v69 : BitVec 32 := Scalar.xori v46 c0_i32_30
  let v72 : BitVec 32 := Scalar.muli c2_i32_33 v69
  let v73 : BitVec 32 := Scalar.addi v71 v72
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c1_i32_29 : BitVec 32 := 1#32
  let v68 : BitVec 32 := Scalar.xori v67 c1_i32_29
  let c2_i32_34 : BitVec 32 := 2#32
  let c0_i32_35 : BitVec 32 := 0#32
  let v74 : BitVec 1 := Scalar.cmpi .eq c2_i32_34 c0_i32_35
  let c1_i32_36 : BitVec 32 := 1#32
  let v75 : BitVec 32 := Scalar.select v74 c1_i32_36 c2_i32_34
  let v76 : BitVec 32 := Scalar.remsi v69 v75
  let c0_i32_38 : BitVec 32 := 0#32
  let v78 : BitVec 1 := Scalar.cmpi .slt v76 c0_i32_38
  let c0_i32_39 : BitVec 32 := 0#32
  let v79 : BitVec 1 := Scalar.cmpi .slt v75 c0_i32_39
  let v80 : BitVec 1 := Scalar.xori v78 v79
  let c0_i32_37 : BitVec 32 := 0#32
  let v77 : BitVec 1 := Scalar.cmpi .ne v76 c0_i32_37
  let v81 : BitVec 1 := Scalar.andi v80 v77
  let v82 : BitVec 32 := Scalar.addi v76 v75
  let v83 : BitVec 32 := Scalar.select v81 v82 v76
  let v84 : BitVec 32 := Scalar.xori v68 v83
  let v85 : BitVec 32 := Scalar.addi v73 v84
  let c1_i32_210 : BitVec 32 := 1#32
  let v275 : BitVec 32 := Scalar.muli v85 c1_i32_210
  let v276 : BitVec 32 := Scalar.addi c0_i32_211 v275
  v276.toNat
def k0_dev10 (d0 : Dev nD) : Nat :=
  let c0_i32_250 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_53 : BitVec 32 := 0#32
  let v106 : BitVec 32 := Scalar.xori v19 c0_i32_53
  let c8_i32_54 : BitVec 32 := 8#32
  let v107 : BitVec 32 := Scalar.muli v106 c8_i32_54
  let c2_i32_55 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_52 : BitVec 32 := 2#32
  let v105 : BitVec 32 := Scalar.xori v46 c2_i32_52
  let v108 : BitVec 32 := Scalar.muli c2_i32_55 v105
  let v109 : BitVec 32 := Scalar.addi v107 v108
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_51 : BitVec 32 := 0#32
  let v104 : BitVec 32 := Scalar.xori v67 c0_i32_51
  let c2_i32_56 : BitVec 32 := 2#32
  let c0_i32_57 : BitVec 32 := 0#32
  let v110 : BitVec 1 := Scalar.cmpi .eq c2_i32_56 c0_i32_57
  let c1_i32_58 : BitVec 32 := 1#32
  let v111 : BitVec 32 := Scalar.select v110 c1_i32_58 c2_i32_56
  let v112 : BitVec 32 := Scalar.remsi v105 v111
  let c0_i32_60 : BitVec 32 := 0#32
  let v114 : BitVec 1 := Scalar.cmpi .slt v112 c0_i32_60
  let c0_i32_61 : BitVec 32 := 0#32
  let v115 : BitVec 1 := Scalar.cmpi .slt v111 c0_i32_61
  let v116 : BitVec 1 := Scalar.xori v114 v115
  let c0_i32_59 : BitVec 32 := 0#32
  let v113 : BitVec 1 := Scalar.cmpi .ne v112 c0_i32_59
  let v117 : BitVec 1 := Scalar.andi v116 v113
  let v118 : BitVec 32 := Scalar.addi v112 v111
  let v119 : BitVec 32 := Scalar.select v117 v118 v112
  let v120 : BitVec 32 := Scalar.xori v104 v119
  let v121 : BitVec 32 := Scalar.addi v109 v120
  let c1_i32_249 : BitVec 32 := 1#32
  let v312 : BitVec 32 := Scalar.muli v121 c1_i32_249
  let v313 : BitVec 32 := Scalar.addi c0_i32_250 v312
  v313.toNat
def k0_dev11 (d0 : Dev nD) : Nat :=
  let c0_i32_290 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_75 : BitVec 32 := 2#32
  let v142 : BitVec 32 := Scalar.xori v19 c2_i32_75
  let c8_i32_76 : BitVec 32 := 8#32
  let v143 : BitVec 32 := Scalar.muli v142 c8_i32_76
  let c2_i32_77 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_74 : BitVec 32 := 0#32
  let v141 : BitVec 32 := Scalar.xori v46 c0_i32_74
  let v144 : BitVec 32 := Scalar.muli c2_i32_77 v141
  let v145 : BitVec 32 := Scalar.addi v143 v144
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_73 : BitVec 32 := 0#32
  let v140 : BitVec 32 := Scalar.xori v67 c0_i32_73
  let c2_i32_78 : BitVec 32 := 2#32
  let c0_i32_79 : BitVec 32 := 0#32
  let v146 : BitVec 1 := Scalar.cmpi .eq c2_i32_78 c0_i32_79
  let c1_i32_80 : BitVec 32 := 1#32
  let v147 : BitVec 32 := Scalar.select v146 c1_i32_80 c2_i32_78
  let v148 : BitVec 32 := Scalar.remsi v141 v147
  let c0_i32_82 : BitVec 32 := 0#32
  let v150 : BitVec 1 := Scalar.cmpi .slt v148 c0_i32_82
  let c0_i32_83 : BitVec 32 := 0#32
  let v151 : BitVec 1 := Scalar.cmpi .slt v147 c0_i32_83
  let v152 : BitVec 1 := Scalar.xori v150 v151
  let c0_i32_81 : BitVec 32 := 0#32
  let v149 : BitVec 1 := Scalar.cmpi .ne v148 c0_i32_81
  let v153 : BitVec 1 := Scalar.andi v152 v149
  let v154 : BitVec 32 := Scalar.addi v148 v147
  let v155 : BitVec 32 := Scalar.select v153 v154 v148
  let v156 : BitVec 32 := Scalar.xori v140 v155
  let v157 : BitVec 32 := Scalar.addi v145 v156
  let c1_i32_289 : BitVec 32 := 1#32
  let v349 : BitVec 32 := Scalar.muli v157 c1_i32_289
  let v350 : BitVec 32 := Scalar.addi c0_i32_290 v349
  v350.toNat
def k0_dev12 (d0 : Dev nD) : Nat :=
  let c0_i32_329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_64 : BitVec 32 := 1#32
  let v124 : BitVec 32 := Scalar.xori v19 c1_i32_64
  let c8_i32_65 : BitVec 32 := 8#32
  let v125 : BitVec 32 := Scalar.muli v124 c8_i32_65
  let c2_i32_66 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_63 : BitVec 32 := 0#32
  let v123 : BitVec 32 := Scalar.xori v46 c0_i32_63
  let v126 : BitVec 32 := Scalar.muli c2_i32_66 v123
  let v127 : BitVec 32 := Scalar.addi v125 v126
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_62 : BitVec 32 := 0#32
  let v122 : BitVec 32 := Scalar.xori v67 c0_i32_62
  let c2_i32_67 : BitVec 32 := 2#32
  let c0_i32_68 : BitVec 32 := 0#32
  let v128 : BitVec 1 := Scalar.cmpi .eq c2_i32_67 c0_i32_68
  let c1_i32_69 : BitVec 32 := 1#32
  let v129 : BitVec 32 := Scalar.select v128 c1_i32_69 c2_i32_67
  let v130 : BitVec 32 := Scalar.remsi v123 v129
  let c0_i32_71 : BitVec 32 := 0#32
  let v132 : BitVec 1 := Scalar.cmpi .slt v130 c0_i32_71
  let c0_i32_72 : BitVec 32 := 0#32
  let v133 : BitVec 1 := Scalar.cmpi .slt v129 c0_i32_72
  let v134 : BitVec 1 := Scalar.xori v132 v133
  let c0_i32_70 : BitVec 32 := 0#32
  let v131 : BitVec 1 := Scalar.cmpi .ne v130 c0_i32_70
  let v135 : BitVec 1 := Scalar.andi v134 v131
  let v136 : BitVec 32 := Scalar.addi v130 v129
  let v137 : BitVec 32 := Scalar.select v135 v136 v130
  let v138 : BitVec 32 := Scalar.xori v122 v137
  let v139 : BitVec 32 := Scalar.addi v127 v138
  let c1_i32_328 : BitVec 32 := 1#32
  let v386 : BitVec 32 := Scalar.muli v139 c1_i32_328
  let v387 : BitVec 32 := Scalar.addi c0_i32_329 v386
  v387.toNat
def k0_dev13 (d0 : Dev nD) : Nat :=
  let c0_i32_368 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_42 : BitVec 32 := 0#32
  let v88 : BitVec 32 := Scalar.xori v19 c0_i32_42
  let c8_i32_43 : BitVec 32 := 8#32
  let v89 : BitVec 32 := Scalar.muli v88 c8_i32_43
  let c2_i32_44 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v87 : BitVec 32 := Scalar.xori v46 c1_i32_41
  let v90 : BitVec 32 := Scalar.muli c2_i32_44 v87
  let v91 : BitVec 32 := Scalar.addi v89 v90
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_40 : BitVec 32 := 0#32
  let v86 : BitVec 32 := Scalar.xori v67 c0_i32_40
  let c2_i32_45 : BitVec 32 := 2#32
  let c0_i32_46 : BitVec 32 := 0#32
  let v92 : BitVec 1 := Scalar.cmpi .eq c2_i32_45 c0_i32_46
  let c1_i32_47 : BitVec 32 := 1#32
  let v93 : BitVec 32 := Scalar.select v92 c1_i32_47 c2_i32_45
  let v94 : BitVec 32 := Scalar.remsi v87 v93
  let c0_i32_49 : BitVec 32 := 0#32
  let v96 : BitVec 1 := Scalar.cmpi .slt v94 c0_i32_49
  let c0_i32_50 : BitVec 32 := 0#32
  let v97 : BitVec 1 := Scalar.cmpi .slt v93 c0_i32_50
  let v98 : BitVec 1 := Scalar.xori v96 v97
  let c0_i32_48 : BitVec 32 := 0#32
  let v95 : BitVec 1 := Scalar.cmpi .ne v94 c0_i32_48
  let v99 : BitVec 1 := Scalar.andi v98 v95
  let v100 : BitVec 32 := Scalar.addi v94 v93
  let v101 : BitVec 32 := Scalar.select v99 v100 v94
  let v102 : BitVec 32 := Scalar.xori v86 v101
  let v103 : BitVec 32 := Scalar.addi v91 v102
  let c1_i32_367 : BitVec 32 := 1#32
  let v423 : BitVec 32 := Scalar.muli v103 c1_i32_367
  let v424 : BitVec 32 := Scalar.addi c0_i32_368 v423
  v424.toNat
def k0_dev14 (d0 : Dev nD) : Nat :=
  let c0_i32_408 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_75 : BitVec 32 := 2#32
  let v142 : BitVec 32 := Scalar.xori v19 c2_i32_75
  let c8_i32_76 : BitVec 32 := 8#32
  let v143 : BitVec 32 := Scalar.muli v142 c8_i32_76
  let c2_i32_77 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_74 : BitVec 32 := 0#32
  let v141 : BitVec 32 := Scalar.xori v46 c0_i32_74
  let v144 : BitVec 32 := Scalar.muli c2_i32_77 v141
  let v145 : BitVec 32 := Scalar.addi v143 v144
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_73 : BitVec 32 := 0#32
  let v140 : BitVec 32 := Scalar.xori v67 c0_i32_73
  let c2_i32_78 : BitVec 32 := 2#32
  let c0_i32_79 : BitVec 32 := 0#32
  let v146 : BitVec 1 := Scalar.cmpi .eq c2_i32_78 c0_i32_79
  let c1_i32_80 : BitVec 32 := 1#32
  let v147 : BitVec 32 := Scalar.select v146 c1_i32_80 c2_i32_78
  let v148 : BitVec 32 := Scalar.remsi v141 v147
  let c0_i32_82 : BitVec 32 := 0#32
  let v150 : BitVec 1 := Scalar.cmpi .slt v148 c0_i32_82
  let c0_i32_83 : BitVec 32 := 0#32
  let v151 : BitVec 1 := Scalar.cmpi .slt v147 c0_i32_83
  let v152 : BitVec 1 := Scalar.xori v150 v151
  let c0_i32_81 : BitVec 32 := 0#32
  let v149 : BitVec 1 := Scalar.cmpi .ne v148 c0_i32_81
  let v153 : BitVec 1 := Scalar.andi v152 v149
  let v154 : BitVec 32 := Scalar.addi v148 v147
  let v155 : BitVec 32 := Scalar.select v153 v154 v148
  let v156 : BitVec 32 := Scalar.xori v140 v155
  let v157 : BitVec 32 := Scalar.addi v145 v156
  let c1_i32_407 : BitVec 32 := 1#32
  let v460 : BitVec 32 := Scalar.muli v157 c1_i32_407
  let v461 : BitVec 32 := Scalar.addi c0_i32_408 v460
  v461.toNat
def k0_dev15 (d0 : Dev nD) : Nat :=
  let c0_i32_447 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_53 : BitVec 32 := 0#32
  let v106 : BitVec 32 := Scalar.xori v19 c0_i32_53
  let c8_i32_54 : BitVec 32 := 8#32
  let v107 : BitVec 32 := Scalar.muli v106 c8_i32_54
  let c2_i32_55 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_52 : BitVec 32 := 2#32
  let v105 : BitVec 32 := Scalar.xori v46 c2_i32_52
  let v108 : BitVec 32 := Scalar.muli c2_i32_55 v105
  let v109 : BitVec 32 := Scalar.addi v107 v108
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_51 : BitVec 32 := 0#32
  let v104 : BitVec 32 := Scalar.xori v67 c0_i32_51
  let c2_i32_56 : BitVec 32 := 2#32
  let c0_i32_57 : BitVec 32 := 0#32
  let v110 : BitVec 1 := Scalar.cmpi .eq c2_i32_56 c0_i32_57
  let c1_i32_58 : BitVec 32 := 1#32
  let v111 : BitVec 32 := Scalar.select v110 c1_i32_58 c2_i32_56
  let v112 : BitVec 32 := Scalar.remsi v105 v111
  let c0_i32_60 : BitVec 32 := 0#32
  let v114 : BitVec 1 := Scalar.cmpi .slt v112 c0_i32_60
  let c0_i32_61 : BitVec 32 := 0#32
  let v115 : BitVec 1 := Scalar.cmpi .slt v111 c0_i32_61
  let v116 : BitVec 1 := Scalar.xori v114 v115
  let c0_i32_59 : BitVec 32 := 0#32
  let v113 : BitVec 1 := Scalar.cmpi .ne v112 c0_i32_59
  let v117 : BitVec 1 := Scalar.andi v116 v113
  let v118 : BitVec 32 := Scalar.addi v112 v111
  let v119 : BitVec 32 := Scalar.select v117 v118 v112
  let v120 : BitVec 32 := Scalar.xori v104 v119
  let v121 : BitVec 32 := Scalar.addi v109 v120
  let c1_i32_446 : BitVec 32 := 1#32
  let v497 : BitVec 32 := Scalar.muli v121 c1_i32_446
  let v498 : BitVec 32 := Scalar.addi c0_i32_447 v497
  v498.toNat
def k0_dev16 (d0 : Dev nD) : Nat :=
  let c0_i32_522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_31 : BitVec 32 := 0#32
  let v70 : BitVec 32 := Scalar.xori v19 c0_i32_31
  let c8_i32_32 : BitVec 32 := 8#32
  let v71 : BitVec 32 := Scalar.muli v70 c8_i32_32
  let c2_i32_33 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_30 : BitVec 32 := 0#32
  let v69 : BitVec 32 := Scalar.xori v46 c0_i32_30
  let v72 : BitVec 32 := Scalar.muli c2_i32_33 v69
  let v73 : BitVec 32 := Scalar.addi v71 v72
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c1_i32_29 : BitVec 32 := 1#32
  let v68 : BitVec 32 := Scalar.xori v67 c1_i32_29
  let c2_i32_34 : BitVec 32 := 2#32
  let c0_i32_35 : BitVec 32 := 0#32
  let v74 : BitVec 1 := Scalar.cmpi .eq c2_i32_34 c0_i32_35
  let c1_i32_36 : BitVec 32 := 1#32
  let v75 : BitVec 32 := Scalar.select v74 c1_i32_36 c2_i32_34
  let v76 : BitVec 32 := Scalar.remsi v69 v75
  let c0_i32_38 : BitVec 32 := 0#32
  let v78 : BitVec 1 := Scalar.cmpi .slt v76 c0_i32_38
  let c0_i32_39 : BitVec 32 := 0#32
  let v79 : BitVec 1 := Scalar.cmpi .slt v75 c0_i32_39
  let v80 : BitVec 1 := Scalar.xori v78 v79
  let c0_i32_37 : BitVec 32 := 0#32
  let v77 : BitVec 1 := Scalar.cmpi .ne v76 c0_i32_37
  let v81 : BitVec 1 := Scalar.andi v80 v77
  let v82 : BitVec 32 := Scalar.addi v76 v75
  let v83 : BitVec 32 := Scalar.select v81 v82 v76
  let v84 : BitVec 32 := Scalar.xori v68 v83
  let v85 : BitVec 32 := Scalar.addi v73 v84
  let c1_i32_521 : BitVec 32 := 1#32
  let v570 : BitVec 32 := Scalar.muli v85 c1_i32_521
  let v571 : BitVec 32 := Scalar.addi c0_i32_522 v570
  v571.toNat
def k0_dev17 (d0 : Dev nD) : Nat :=
  let c0_i32_540 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_64 : BitVec 32 := 1#32
  let v124 : BitVec 32 := Scalar.xori v19 c1_i32_64
  let c8_i32_65 : BitVec 32 := 8#32
  let v125 : BitVec 32 := Scalar.muli v124 c8_i32_65
  let c2_i32_66 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_63 : BitVec 32 := 0#32
  let v123 : BitVec 32 := Scalar.xori v46 c0_i32_63
  let v126 : BitVec 32 := Scalar.muli c2_i32_66 v123
  let v127 : BitVec 32 := Scalar.addi v125 v126
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_62 : BitVec 32 := 0#32
  let v122 : BitVec 32 := Scalar.xori v67 c0_i32_62
  let c2_i32_67 : BitVec 32 := 2#32
  let c0_i32_68 : BitVec 32 := 0#32
  let v128 : BitVec 1 := Scalar.cmpi .eq c2_i32_67 c0_i32_68
  let c1_i32_69 : BitVec 32 := 1#32
  let v129 : BitVec 32 := Scalar.select v128 c1_i32_69 c2_i32_67
  let v130 : BitVec 32 := Scalar.remsi v123 v129
  let c0_i32_71 : BitVec 32 := 0#32
  let v132 : BitVec 1 := Scalar.cmpi .slt v130 c0_i32_71
  let c0_i32_72 : BitVec 32 := 0#32
  let v133 : BitVec 1 := Scalar.cmpi .slt v129 c0_i32_72
  let v134 : BitVec 1 := Scalar.xori v132 v133
  let c0_i32_70 : BitVec 32 := 0#32
  let v131 : BitVec 1 := Scalar.cmpi .ne v130 c0_i32_70
  let v135 : BitVec 1 := Scalar.andi v134 v131
  let v136 : BitVec 32 := Scalar.addi v130 v129
  let v137 : BitVec 32 := Scalar.select v135 v136 v130
  let v138 : BitVec 32 := Scalar.xori v122 v137
  let v139 : BitVec 32 := Scalar.addi v127 v138
  let c1_i32_539 : BitVec 32 := 1#32
  let v590 : BitVec 32 := Scalar.muli v139 c1_i32_539
  let v591 : BitVec 32 := Scalar.addi c0_i32_540 v590
  v591.toNat
def k0_dev18 (d0 : Dev nD) : Nat :=
  let c0_i32_579 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_42 : BitVec 32 := 0#32
  let v88 : BitVec 32 := Scalar.xori v19 c0_i32_42
  let c8_i32_43 : BitVec 32 := 8#32
  let v89 : BitVec 32 := Scalar.muli v88 c8_i32_43
  let c2_i32_44 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v87 : BitVec 32 := Scalar.xori v46 c1_i32_41
  let v90 : BitVec 32 := Scalar.muli c2_i32_44 v87
  let v91 : BitVec 32 := Scalar.addi v89 v90
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_40 : BitVec 32 := 0#32
  let v86 : BitVec 32 := Scalar.xori v67 c0_i32_40
  let c2_i32_45 : BitVec 32 := 2#32
  let c0_i32_46 : BitVec 32 := 0#32
  let v92 : BitVec 1 := Scalar.cmpi .eq c2_i32_45 c0_i32_46
  let c1_i32_47 : BitVec 32 := 1#32
  let v93 : BitVec 32 := Scalar.select v92 c1_i32_47 c2_i32_45
  let v94 : BitVec 32 := Scalar.remsi v87 v93
  let c0_i32_49 : BitVec 32 := 0#32
  let v96 : BitVec 1 := Scalar.cmpi .slt v94 c0_i32_49
  let c0_i32_50 : BitVec 32 := 0#32
  let v97 : BitVec 1 := Scalar.cmpi .slt v93 c0_i32_50
  let v98 : BitVec 1 := Scalar.xori v96 v97
  let c0_i32_48 : BitVec 32 := 0#32
  let v95 : BitVec 1 := Scalar.cmpi .ne v94 c0_i32_48
  let v99 : BitVec 1 := Scalar.andi v98 v95
  let v100 : BitVec 32 := Scalar.addi v94 v93
  let v101 : BitVec 32 := Scalar.select v99 v100 v94
  let v102 : BitVec 32 := Scalar.xori v86 v101
  let v103 : BitVec 32 := Scalar.addi v91 v102
  let c1_i32_578 : BitVec 32 := 1#32
  let v627 : BitVec 32 := Scalar.muli v103 c1_i32_578
  let v628 : BitVec 32 := Scalar.addi c0_i32_579 v627
  v628.toNat
def k0_dev19 (d0 : Dev nD) : Nat :=
  let c0_i32_618 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_31 : BitVec 32 := 0#32
  let v70 : BitVec 32 := Scalar.xori v19 c0_i32_31
  let c8_i32_32 : BitVec 32 := 8#32
  let v71 : BitVec 32 := Scalar.muli v70 c8_i32_32
  let c2_i32_33 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_30 : BitVec 32 := 0#32
  let v69 : BitVec 32 := Scalar.xori v46 c0_i32_30
  let v72 : BitVec 32 := Scalar.muli c2_i32_33 v69
  let v73 : BitVec 32 := Scalar.addi v71 v72
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c1_i32_29 : BitVec 32 := 1#32
  let v68 : BitVec 32 := Scalar.xori v67 c1_i32_29
  let c2_i32_34 : BitVec 32 := 2#32
  let c0_i32_35 : BitVec 32 := 0#32
  let v74 : BitVec 1 := Scalar.cmpi .eq c2_i32_34 c0_i32_35
  let c1_i32_36 : BitVec 32 := 1#32
  let v75 : BitVec 32 := Scalar.select v74 c1_i32_36 c2_i32_34
  let v76 : BitVec 32 := Scalar.remsi v69 v75
  let c0_i32_38 : BitVec 32 := 0#32
  let v78 : BitVec 1 := Scalar.cmpi .slt v76 c0_i32_38
  let c0_i32_39 : BitVec 32 := 0#32
  let v79 : BitVec 1 := Scalar.cmpi .slt v75 c0_i32_39
  let v80 : BitVec 1 := Scalar.xori v78 v79
  let c0_i32_37 : BitVec 32 := 0#32
  let v77 : BitVec 1 := Scalar.cmpi .ne v76 c0_i32_37
  let v81 : BitVec 1 := Scalar.andi v80 v77
  let v82 : BitVec 32 := Scalar.addi v76 v75
  let v83 : BitVec 32 := Scalar.select v81 v82 v76
  let v84 : BitVec 32 := Scalar.xori v68 v83
  let v85 : BitVec 32 := Scalar.addi v73 v84
  let c1_i32_617 : BitVec 32 := 1#32
  let v664 : BitVec 32 := Scalar.muli v85 c1_i32_617
  let v665 : BitVec 32 := Scalar.addi c0_i32_618 v664
  v665.toNat
def k0_dev20 (d0 : Dev nD) : Nat :=
  let c0_i32_657 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_53 : BitVec 32 := 0#32
  let v106 : BitVec 32 := Scalar.xori v19 c0_i32_53
  let c8_i32_54 : BitVec 32 := 8#32
  let v107 : BitVec 32 := Scalar.muli v106 c8_i32_54
  let c2_i32_55 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_52 : BitVec 32 := 2#32
  let v105 : BitVec 32 := Scalar.xori v46 c2_i32_52
  let v108 : BitVec 32 := Scalar.muli c2_i32_55 v105
  let v109 : BitVec 32 := Scalar.addi v107 v108
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_51 : BitVec 32 := 0#32
  let v104 : BitVec 32 := Scalar.xori v67 c0_i32_51
  let c2_i32_56 : BitVec 32 := 2#32
  let c0_i32_57 : BitVec 32 := 0#32
  let v110 : BitVec 1 := Scalar.cmpi .eq c2_i32_56 c0_i32_57
  let c1_i32_58 : BitVec 32 := 1#32
  let v111 : BitVec 32 := Scalar.select v110 c1_i32_58 c2_i32_56
  let v112 : BitVec 32 := Scalar.remsi v105 v111
  let c0_i32_60 : BitVec 32 := 0#32
  let v114 : BitVec 1 := Scalar.cmpi .slt v112 c0_i32_60
  let c0_i32_61 : BitVec 32 := 0#32
  let v115 : BitVec 1 := Scalar.cmpi .slt v111 c0_i32_61
  let v116 : BitVec 1 := Scalar.xori v114 v115
  let c0_i32_59 : BitVec 32 := 0#32
  let v113 : BitVec 1 := Scalar.cmpi .ne v112 c0_i32_59
  let v117 : BitVec 1 := Scalar.andi v116 v113
  let v118 : BitVec 32 := Scalar.addi v112 v111
  let v119 : BitVec 32 := Scalar.select v117 v118 v112
  let v120 : BitVec 32 := Scalar.xori v104 v119
  let v121 : BitVec 32 := Scalar.addi v109 v120
  let c1_i32_656 : BitVec 32 := 1#32
  let v701 : BitVec 32 := Scalar.muli v121 c1_i32_656
  let v702 : BitVec 32 := Scalar.addi c0_i32_657 v701
  v702.toNat
def k0_dev21 (d0 : Dev nD) : Nat :=
  let c0_i32_696 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_75 : BitVec 32 := 2#32
  let v142 : BitVec 32 := Scalar.xori v19 c2_i32_75
  let c8_i32_76 : BitVec 32 := 8#32
  let v143 : BitVec 32 := Scalar.muli v142 c8_i32_76
  let c2_i32_77 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_74 : BitVec 32 := 0#32
  let v141 : BitVec 32 := Scalar.xori v46 c0_i32_74
  let v144 : BitVec 32 := Scalar.muli c2_i32_77 v141
  let v145 : BitVec 32 := Scalar.addi v143 v144
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_73 : BitVec 32 := 0#32
  let v140 : BitVec 32 := Scalar.xori v67 c0_i32_73
  let c2_i32_78 : BitVec 32 := 2#32
  let c0_i32_79 : BitVec 32 := 0#32
  let v146 : BitVec 1 := Scalar.cmpi .eq c2_i32_78 c0_i32_79
  let c1_i32_80 : BitVec 32 := 1#32
  let v147 : BitVec 32 := Scalar.select v146 c1_i32_80 c2_i32_78
  let v148 : BitVec 32 := Scalar.remsi v141 v147
  let c0_i32_82 : BitVec 32 := 0#32
  let v150 : BitVec 1 := Scalar.cmpi .slt v148 c0_i32_82
  let c0_i32_83 : BitVec 32 := 0#32
  let v151 : BitVec 1 := Scalar.cmpi .slt v147 c0_i32_83
  let v152 : BitVec 1 := Scalar.xori v150 v151
  let c0_i32_81 : BitVec 32 := 0#32
  let v149 : BitVec 1 := Scalar.cmpi .ne v148 c0_i32_81
  let v153 : BitVec 1 := Scalar.andi v152 v149
  let v154 : BitVec 32 := Scalar.addi v148 v147
  let v155 : BitVec 32 := Scalar.select v153 v154 v148
  let v156 : BitVec 32 := Scalar.xori v140 v155
  let v157 : BitVec 32 := Scalar.addi v145 v156
  let c1_i32_695 : BitVec 32 := 1#32
  let v738 : BitVec 32 := Scalar.muli v157 c1_i32_695
  let v739 : BitVec 32 := Scalar.addi c0_i32_696 v738
  v739.toNat
def k0_dev22 (d0 : Dev nD) : Nat :=
  let c0_i32_735 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_64 : BitVec 32 := 1#32
  let v124 : BitVec 32 := Scalar.xori v19 c1_i32_64
  let c8_i32_65 : BitVec 32 := 8#32
  let v125 : BitVec 32 := Scalar.muli v124 c8_i32_65
  let c2_i32_66 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_63 : BitVec 32 := 0#32
  let v123 : BitVec 32 := Scalar.xori v46 c0_i32_63
  let v126 : BitVec 32 := Scalar.muli c2_i32_66 v123
  let v127 : BitVec 32 := Scalar.addi v125 v126
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_62 : BitVec 32 := 0#32
  let v122 : BitVec 32 := Scalar.xori v67 c0_i32_62
  let c2_i32_67 : BitVec 32 := 2#32
  let c0_i32_68 : BitVec 32 := 0#32
  let v128 : BitVec 1 := Scalar.cmpi .eq c2_i32_67 c0_i32_68
  let c1_i32_69 : BitVec 32 := 1#32
  let v129 : BitVec 32 := Scalar.select v128 c1_i32_69 c2_i32_67
  let v130 : BitVec 32 := Scalar.remsi v123 v129
  let c0_i32_71 : BitVec 32 := 0#32
  let v132 : BitVec 1 := Scalar.cmpi .slt v130 c0_i32_71
  let c0_i32_72 : BitVec 32 := 0#32
  let v133 : BitVec 1 := Scalar.cmpi .slt v129 c0_i32_72
  let v134 : BitVec 1 := Scalar.xori v132 v133
  let c0_i32_70 : BitVec 32 := 0#32
  let v131 : BitVec 1 := Scalar.cmpi .ne v130 c0_i32_70
  let v135 : BitVec 1 := Scalar.andi v134 v131
  let v136 : BitVec 32 := Scalar.addi v130 v129
  let v137 : BitVec 32 := Scalar.select v135 v136 v130
  let v138 : BitVec 32 := Scalar.xori v122 v137
  let v139 : BitVec 32 := Scalar.addi v127 v138
  let c1_i32_734 : BitVec 32 := 1#32
  let v775 : BitVec 32 := Scalar.muli v139 c1_i32_734
  let v776 : BitVec 32 := Scalar.addi c0_i32_735 v775
  v776.toNat
def k0_dev23 (d0 : Dev nD) : Nat :=
  let c0_i32_774 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_42 : BitVec 32 := 0#32
  let v88 : BitVec 32 := Scalar.xori v19 c0_i32_42
  let c8_i32_43 : BitVec 32 := 8#32
  let v89 : BitVec 32 := Scalar.muli v88 c8_i32_43
  let c2_i32_44 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v87 : BitVec 32 := Scalar.xori v46 c1_i32_41
  let v90 : BitVec 32 := Scalar.muli c2_i32_44 v87
  let v91 : BitVec 32 := Scalar.addi v89 v90
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_40 : BitVec 32 := 0#32
  let v86 : BitVec 32 := Scalar.xori v67 c0_i32_40
  let c2_i32_45 : BitVec 32 := 2#32
  let c0_i32_46 : BitVec 32 := 0#32
  let v92 : BitVec 1 := Scalar.cmpi .eq c2_i32_45 c0_i32_46
  let c1_i32_47 : BitVec 32 := 1#32
  let v93 : BitVec 32 := Scalar.select v92 c1_i32_47 c2_i32_45
  let v94 : BitVec 32 := Scalar.remsi v87 v93
  let c0_i32_49 : BitVec 32 := 0#32
  let v96 : BitVec 1 := Scalar.cmpi .slt v94 c0_i32_49
  let c0_i32_50 : BitVec 32 := 0#32
  let v97 : BitVec 1 := Scalar.cmpi .slt v93 c0_i32_50
  let v98 : BitVec 1 := Scalar.xori v96 v97
  let c0_i32_48 : BitVec 32 := 0#32
  let v95 : BitVec 1 := Scalar.cmpi .ne v94 c0_i32_48
  let v99 : BitVec 1 := Scalar.andi v98 v95
  let v100 : BitVec 32 := Scalar.addi v94 v93
  let v101 : BitVec 32 := Scalar.select v99 v100 v94
  let v102 : BitVec 32 := Scalar.xori v86 v101
  let v103 : BitVec 32 := Scalar.addi v91 v102
  let c1_i32_773 : BitVec 32 := 1#32
  let v812 : BitVec 32 := Scalar.muli v103 c1_i32_773
  let v813 : BitVec 32 := Scalar.addi c0_i32_774 v812
  v813.toNat
def k0_dev24 (d0 : Dev nD) : Nat :=
  let c0_i32_813 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_75 : BitVec 32 := 2#32
  let v142 : BitVec 32 := Scalar.xori v19 c2_i32_75
  let c8_i32_76 : BitVec 32 := 8#32
  let v143 : BitVec 32 := Scalar.muli v142 c8_i32_76
  let c2_i32_77 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_74 : BitVec 32 := 0#32
  let v141 : BitVec 32 := Scalar.xori v46 c0_i32_74
  let v144 : BitVec 32 := Scalar.muli c2_i32_77 v141
  let v145 : BitVec 32 := Scalar.addi v143 v144
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_73 : BitVec 32 := 0#32
  let v140 : BitVec 32 := Scalar.xori v67 c0_i32_73
  let c2_i32_78 : BitVec 32 := 2#32
  let c0_i32_79 : BitVec 32 := 0#32
  let v146 : BitVec 1 := Scalar.cmpi .eq c2_i32_78 c0_i32_79
  let c1_i32_80 : BitVec 32 := 1#32
  let v147 : BitVec 32 := Scalar.select v146 c1_i32_80 c2_i32_78
  let v148 : BitVec 32 := Scalar.remsi v141 v147
  let c0_i32_82 : BitVec 32 := 0#32
  let v150 : BitVec 1 := Scalar.cmpi .slt v148 c0_i32_82
  let c0_i32_83 : BitVec 32 := 0#32
  let v151 : BitVec 1 := Scalar.cmpi .slt v147 c0_i32_83
  let v152 : BitVec 1 := Scalar.xori v150 v151
  let c0_i32_81 : BitVec 32 := 0#32
  let v149 : BitVec 1 := Scalar.cmpi .ne v148 c0_i32_81
  let v153 : BitVec 1 := Scalar.andi v152 v149
  let v154 : BitVec 32 := Scalar.addi v148 v147
  let v155 : BitVec 32 := Scalar.select v153 v154 v148
  let v156 : BitVec 32 := Scalar.xori v140 v155
  let v157 : BitVec 32 := Scalar.addi v145 v156
  let c1_i32_812 : BitVec 32 := 1#32
  let v849 : BitVec 32 := Scalar.muli v157 c1_i32_812
  let v850 : BitVec 32 := Scalar.addi c0_i32_813 v849
  v850.toNat
def k0_dev25 (d0 : Dev nD) : Nat :=
  let c0_i32_852 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_53 : BitVec 32 := 0#32
  let v106 : BitVec 32 := Scalar.xori v19 c0_i32_53
  let c8_i32_54 : BitVec 32 := 8#32
  let v107 : BitVec 32 := Scalar.muli v106 c8_i32_54
  let c2_i32_55 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_52 : BitVec 32 := 2#32
  let v105 : BitVec 32 := Scalar.xori v46 c2_i32_52
  let v108 : BitVec 32 := Scalar.muli c2_i32_55 v105
  let v109 : BitVec 32 := Scalar.addi v107 v108
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_51 : BitVec 32 := 0#32
  let v104 : BitVec 32 := Scalar.xori v67 c0_i32_51
  let c2_i32_56 : BitVec 32 := 2#32
  let c0_i32_57 : BitVec 32 := 0#32
  let v110 : BitVec 1 := Scalar.cmpi .eq c2_i32_56 c0_i32_57
  let c1_i32_58 : BitVec 32 := 1#32
  let v111 : BitVec 32 := Scalar.select v110 c1_i32_58 c2_i32_56
  let v112 : BitVec 32 := Scalar.remsi v105 v111
  let c0_i32_60 : BitVec 32 := 0#32
  let v114 : BitVec 1 := Scalar.cmpi .slt v112 c0_i32_60
  let c0_i32_61 : BitVec 32 := 0#32
  let v115 : BitVec 1 := Scalar.cmpi .slt v111 c0_i32_61
  let v116 : BitVec 1 := Scalar.xori v114 v115
  let c0_i32_59 : BitVec 32 := 0#32
  let v113 : BitVec 1 := Scalar.cmpi .ne v112 c0_i32_59
  let v117 : BitVec 1 := Scalar.andi v116 v113
  let v118 : BitVec 32 := Scalar.addi v112 v111
  let v119 : BitVec 32 := Scalar.select v117 v118 v112
  let v120 : BitVec 32 := Scalar.xori v104 v119
  let v121 : BitVec 32 := Scalar.addi v109 v120
  let c1_i32_851 : BitVec 32 := 1#32
  let v886 : BitVec 32 := Scalar.muli v121 c1_i32_851
  let v887 : BitVec 32 := Scalar.addi c0_i32_852 v886
  v887.toNat
def k0_dev26 (d0 : Dev nD) : Nat :=
  let c0_i32_927 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_31 : BitVec 32 := 0#32
  let v70 : BitVec 32 := Scalar.xori v19 c0_i32_31
  let c8_i32_32 : BitVec 32 := 8#32
  let v71 : BitVec 32 := Scalar.muli v70 c8_i32_32
  let c2_i32_33 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_30 : BitVec 32 := 0#32
  let v69 : BitVec 32 := Scalar.xori v46 c0_i32_30
  let v72 : BitVec 32 := Scalar.muli c2_i32_33 v69
  let v73 : BitVec 32 := Scalar.addi v71 v72
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c1_i32_29 : BitVec 32 := 1#32
  let v68 : BitVec 32 := Scalar.xori v67 c1_i32_29
  let c2_i32_34 : BitVec 32 := 2#32
  let c0_i32_35 : BitVec 32 := 0#32
  let v74 : BitVec 1 := Scalar.cmpi .eq c2_i32_34 c0_i32_35
  let c1_i32_36 : BitVec 32 := 1#32
  let v75 : BitVec 32 := Scalar.select v74 c1_i32_36 c2_i32_34
  let v76 : BitVec 32 := Scalar.remsi v69 v75
  let c0_i32_38 : BitVec 32 := 0#32
  let v78 : BitVec 1 := Scalar.cmpi .slt v76 c0_i32_38
  let c0_i32_39 : BitVec 32 := 0#32
  let v79 : BitVec 1 := Scalar.cmpi .slt v75 c0_i32_39
  let v80 : BitVec 1 := Scalar.xori v78 v79
  let c0_i32_37 : BitVec 32 := 0#32
  let v77 : BitVec 1 := Scalar.cmpi .ne v76 c0_i32_37
  let v81 : BitVec 1 := Scalar.andi v80 v77
  let v82 : BitVec 32 := Scalar.addi v76 v75
  let v83 : BitVec 32 := Scalar.select v81 v82 v76
  let v84 : BitVec 32 := Scalar.xori v68 v83
  let v85 : BitVec 32 := Scalar.addi v73 v84
  let c1_i32_926 : BitVec 32 := 1#32
  let v959 : BitVec 32 := Scalar.muli v85 c1_i32_926
  let v960 : BitVec 32 := Scalar.addi c0_i32_927 v959
  v960.toNat
def k0_dev27 (d0 : Dev nD) : Nat :=
  let c0_i32_945 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_64 : BitVec 32 := 1#32
  let v124 : BitVec 32 := Scalar.xori v19 c1_i32_64
  let c8_i32_65 : BitVec 32 := 8#32
  let v125 : BitVec 32 := Scalar.muli v124 c8_i32_65
  let c2_i32_66 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_63 : BitVec 32 := 0#32
  let v123 : BitVec 32 := Scalar.xori v46 c0_i32_63
  let v126 : BitVec 32 := Scalar.muli c2_i32_66 v123
  let v127 : BitVec 32 := Scalar.addi v125 v126
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_62 : BitVec 32 := 0#32
  let v122 : BitVec 32 := Scalar.xori v67 c0_i32_62
  let c2_i32_67 : BitVec 32 := 2#32
  let c0_i32_68 : BitVec 32 := 0#32
  let v128 : BitVec 1 := Scalar.cmpi .eq c2_i32_67 c0_i32_68
  let c1_i32_69 : BitVec 32 := 1#32
  let v129 : BitVec 32 := Scalar.select v128 c1_i32_69 c2_i32_67
  let v130 : BitVec 32 := Scalar.remsi v123 v129
  let c0_i32_71 : BitVec 32 := 0#32
  let v132 : BitVec 1 := Scalar.cmpi .slt v130 c0_i32_71
  let c0_i32_72 : BitVec 32 := 0#32
  let v133 : BitVec 1 := Scalar.cmpi .slt v129 c0_i32_72
  let v134 : BitVec 1 := Scalar.xori v132 v133
  let c0_i32_70 : BitVec 32 := 0#32
  let v131 : BitVec 1 := Scalar.cmpi .ne v130 c0_i32_70
  let v135 : BitVec 1 := Scalar.andi v134 v131
  let v136 : BitVec 32 := Scalar.addi v130 v129
  let v137 : BitVec 32 := Scalar.select v135 v136 v130
  let v138 : BitVec 32 := Scalar.xori v122 v137
  let v139 : BitVec 32 := Scalar.addi v127 v138
  let c1_i32_944 : BitVec 32 := 1#32
  let v979 : BitVec 32 := Scalar.muli v139 c1_i32_944
  let v980 : BitVec 32 := Scalar.addi c0_i32_945 v979
  v980.toNat
def k0_dev28 (d0 : Dev nD) : Nat :=
  let c0_i32_984 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_42 : BitVec 32 := 0#32
  let v88 : BitVec 32 := Scalar.xori v19 c0_i32_42
  let c8_i32_43 : BitVec 32 := 8#32
  let v89 : BitVec 32 := Scalar.muli v88 c8_i32_43
  let c2_i32_44 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v87 : BitVec 32 := Scalar.xori v46 c1_i32_41
  let v90 : BitVec 32 := Scalar.muli c2_i32_44 v87
  let v91 : BitVec 32 := Scalar.addi v89 v90
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_40 : BitVec 32 := 0#32
  let v86 : BitVec 32 := Scalar.xori v67 c0_i32_40
  let c2_i32_45 : BitVec 32 := 2#32
  let c0_i32_46 : BitVec 32 := 0#32
  let v92 : BitVec 1 := Scalar.cmpi .eq c2_i32_45 c0_i32_46
  let c1_i32_47 : BitVec 32 := 1#32
  let v93 : BitVec 32 := Scalar.select v92 c1_i32_47 c2_i32_45
  let v94 : BitVec 32 := Scalar.remsi v87 v93
  let c0_i32_49 : BitVec 32 := 0#32
  let v96 : BitVec 1 := Scalar.cmpi .slt v94 c0_i32_49
  let c0_i32_50 : BitVec 32 := 0#32
  let v97 : BitVec 1 := Scalar.cmpi .slt v93 c0_i32_50
  let v98 : BitVec 1 := Scalar.xori v96 v97
  let c0_i32_48 : BitVec 32 := 0#32
  let v95 : BitVec 1 := Scalar.cmpi .ne v94 c0_i32_48
  let v99 : BitVec 1 := Scalar.andi v98 v95
  let v100 : BitVec 32 := Scalar.addi v94 v93
  let v101 : BitVec 32 := Scalar.select v99 v100 v94
  let v102 : BitVec 32 := Scalar.xori v86 v101
  let v103 : BitVec 32 := Scalar.addi v91 v102
  let c1_i32_983 : BitVec 32 := 1#32
  let v1016 : BitVec 32 := Scalar.muli v103 c1_i32_983
  let v1017 : BitVec 32 := Scalar.addi c0_i32_984 v1016
  v1017.toNat
def k0_dev29 (d0 : Dev nD) : Nat :=
  let c0_i32_1023 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_31 : BitVec 32 := 0#32
  let v70 : BitVec 32 := Scalar.xori v19 c0_i32_31
  let c8_i32_32 : BitVec 32 := 8#32
  let v71 : BitVec 32 := Scalar.muli v70 c8_i32_32
  let c2_i32_33 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_30 : BitVec 32 := 0#32
  let v69 : BitVec 32 := Scalar.xori v46 c0_i32_30
  let v72 : BitVec 32 := Scalar.muli c2_i32_33 v69
  let v73 : BitVec 32 := Scalar.addi v71 v72
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c1_i32_29 : BitVec 32 := 1#32
  let v68 : BitVec 32 := Scalar.xori v67 c1_i32_29
  let c2_i32_34 : BitVec 32 := 2#32
  let c0_i32_35 : BitVec 32 := 0#32
  let v74 : BitVec 1 := Scalar.cmpi .eq c2_i32_34 c0_i32_35
  let c1_i32_36 : BitVec 32 := 1#32
  let v75 : BitVec 32 := Scalar.select v74 c1_i32_36 c2_i32_34
  let v76 : BitVec 32 := Scalar.remsi v69 v75
  let c0_i32_38 : BitVec 32 := 0#32
  let v78 : BitVec 1 := Scalar.cmpi .slt v76 c0_i32_38
  let c0_i32_39 : BitVec 32 := 0#32
  let v79 : BitVec 1 := Scalar.cmpi .slt v75 c0_i32_39
  let v80 : BitVec 1 := Scalar.xori v78 v79
  let c0_i32_37 : BitVec 32 := 0#32
  let v77 : BitVec 1 := Scalar.cmpi .ne v76 c0_i32_37
  let v81 : BitVec 1 := Scalar.andi v80 v77
  let v82 : BitVec 32 := Scalar.addi v76 v75
  let v83 : BitVec 32 := Scalar.select v81 v82 v76
  let v84 : BitVec 32 := Scalar.xori v68 v83
  let v85 : BitVec 32 := Scalar.addi v73 v84
  let c1_i32_1022 : BitVec 32 := 1#32
  let v1053 : BitVec 32 := Scalar.muli v85 c1_i32_1022
  let v1054 : BitVec 32 := Scalar.addi c0_i32_1023 v1053
  v1054.toNat
def k0_dev30 (d0 : Dev nD) : Nat :=
  let c0_i32_1062 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_53 : BitVec 32 := 0#32
  let v106 : BitVec 32 := Scalar.xori v19 c0_i32_53
  let c8_i32_54 : BitVec 32 := 8#32
  let v107 : BitVec 32 := Scalar.muli v106 c8_i32_54
  let c2_i32_55 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_52 : BitVec 32 := 2#32
  let v105 : BitVec 32 := Scalar.xori v46 c2_i32_52
  let v108 : BitVec 32 := Scalar.muli c2_i32_55 v105
  let v109 : BitVec 32 := Scalar.addi v107 v108
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_51 : BitVec 32 := 0#32
  let v104 : BitVec 32 := Scalar.xori v67 c0_i32_51
  let c2_i32_56 : BitVec 32 := 2#32
  let c0_i32_57 : BitVec 32 := 0#32
  let v110 : BitVec 1 := Scalar.cmpi .eq c2_i32_56 c0_i32_57
  let c1_i32_58 : BitVec 32 := 1#32
  let v111 : BitVec 32 := Scalar.select v110 c1_i32_58 c2_i32_56
  let v112 : BitVec 32 := Scalar.remsi v105 v111
  let c0_i32_60 : BitVec 32 := 0#32
  let v114 : BitVec 1 := Scalar.cmpi .slt v112 c0_i32_60
  let c0_i32_61 : BitVec 32 := 0#32
  let v115 : BitVec 1 := Scalar.cmpi .slt v111 c0_i32_61
  let v116 : BitVec 1 := Scalar.xori v114 v115
  let c0_i32_59 : BitVec 32 := 0#32
  let v113 : BitVec 1 := Scalar.cmpi .ne v112 c0_i32_59
  let v117 : BitVec 1 := Scalar.andi v116 v113
  let v118 : BitVec 32 := Scalar.addi v112 v111
  let v119 : BitVec 32 := Scalar.select v117 v118 v112
  let v120 : BitVec 32 := Scalar.xori v104 v119
  let v121 : BitVec 32 := Scalar.addi v109 v120
  let c1_i32_1061 : BitVec 32 := 1#32
  let v1090 : BitVec 32 := Scalar.muli v121 c1_i32_1061
  let v1091 : BitVec 32 := Scalar.addi c0_i32_1062 v1090
  v1091.toNat
def k0_dev31 (d0 : Dev nD) : Nat :=
  let c0_i32_1101 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_75 : BitVec 32 := 2#32
  let v142 : BitVec 32 := Scalar.xori v19 c2_i32_75
  let c8_i32_76 : BitVec 32 := 8#32
  let v143 : BitVec 32 := Scalar.muli v142 c8_i32_76
  let c2_i32_77 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_74 : BitVec 32 := 0#32
  let v141 : BitVec 32 := Scalar.xori v46 c0_i32_74
  let v144 : BitVec 32 := Scalar.muli c2_i32_77 v141
  let v145 : BitVec 32 := Scalar.addi v143 v144
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_73 : BitVec 32 := 0#32
  let v140 : BitVec 32 := Scalar.xori v67 c0_i32_73
  let c2_i32_78 : BitVec 32 := 2#32
  let c0_i32_79 : BitVec 32 := 0#32
  let v146 : BitVec 1 := Scalar.cmpi .eq c2_i32_78 c0_i32_79
  let c1_i32_80 : BitVec 32 := 1#32
  let v147 : BitVec 32 := Scalar.select v146 c1_i32_80 c2_i32_78
  let v148 : BitVec 32 := Scalar.remsi v141 v147
  let c0_i32_82 : BitVec 32 := 0#32
  let v150 : BitVec 1 := Scalar.cmpi .slt v148 c0_i32_82
  let c0_i32_83 : BitVec 32 := 0#32
  let v151 : BitVec 1 := Scalar.cmpi .slt v147 c0_i32_83
  let v152 : BitVec 1 := Scalar.xori v150 v151
  let c0_i32_81 : BitVec 32 := 0#32
  let v149 : BitVec 1 := Scalar.cmpi .ne v148 c0_i32_81
  let v153 : BitVec 1 := Scalar.andi v152 v149
  let v154 : BitVec 32 := Scalar.addi v148 v147
  let v155 : BitVec 32 := Scalar.select v153 v154 v148
  let v156 : BitVec 32 := Scalar.xori v140 v155
  let v157 : BitVec 32 := Scalar.addi v145 v156
  let c1_i32_1100 : BitVec 32 := 1#32
  let v1127 : BitVec 32 := Scalar.muli v157 c1_i32_1100
  let v1128 : BitVec 32 := Scalar.addi c0_i32_1101 v1127
  v1128.toNat
def k0_dev32 (d0 : Dev nD) : Nat :=
  let c0_i32_1140 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_64 : BitVec 32 := 1#32
  let v124 : BitVec 32 := Scalar.xori v19 c1_i32_64
  let c8_i32_65 : BitVec 32 := 8#32
  let v125 : BitVec 32 := Scalar.muli v124 c8_i32_65
  let c2_i32_66 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_63 : BitVec 32 := 0#32
  let v123 : BitVec 32 := Scalar.xori v46 c0_i32_63
  let v126 : BitVec 32 := Scalar.muli c2_i32_66 v123
  let v127 : BitVec 32 := Scalar.addi v125 v126
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_62 : BitVec 32 := 0#32
  let v122 : BitVec 32 := Scalar.xori v67 c0_i32_62
  let c2_i32_67 : BitVec 32 := 2#32
  let c0_i32_68 : BitVec 32 := 0#32
  let v128 : BitVec 1 := Scalar.cmpi .eq c2_i32_67 c0_i32_68
  let c1_i32_69 : BitVec 32 := 1#32
  let v129 : BitVec 32 := Scalar.select v128 c1_i32_69 c2_i32_67
  let v130 : BitVec 32 := Scalar.remsi v123 v129
  let c0_i32_71 : BitVec 32 := 0#32
  let v132 : BitVec 1 := Scalar.cmpi .slt v130 c0_i32_71
  let c0_i32_72 : BitVec 32 := 0#32
  let v133 : BitVec 1 := Scalar.cmpi .slt v129 c0_i32_72
  let v134 : BitVec 1 := Scalar.xori v132 v133
  let c0_i32_70 : BitVec 32 := 0#32
  let v131 : BitVec 1 := Scalar.cmpi .ne v130 c0_i32_70
  let v135 : BitVec 1 := Scalar.andi v134 v131
  let v136 : BitVec 32 := Scalar.addi v130 v129
  let v137 : BitVec 32 := Scalar.select v135 v136 v130
  let v138 : BitVec 32 := Scalar.xori v122 v137
  let v139 : BitVec 32 := Scalar.addi v127 v138
  let c1_i32_1139 : BitVec 32 := 1#32
  let v1164 : BitVec 32 := Scalar.muli v139 c1_i32_1139
  let v1165 : BitVec 32 := Scalar.addi c0_i32_1140 v1164
  v1165.toNat
def k0_dev33 (d0 : Dev nD) : Nat :=
  let c0_i32_1179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_42 : BitVec 32 := 0#32
  let v88 : BitVec 32 := Scalar.xori v19 c0_i32_42
  let c8_i32_43 : BitVec 32 := 8#32
  let v89 : BitVec 32 := Scalar.muli v88 c8_i32_43
  let c2_i32_44 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v87 : BitVec 32 := Scalar.xori v46 c1_i32_41
  let v90 : BitVec 32 := Scalar.muli c2_i32_44 v87
  let v91 : BitVec 32 := Scalar.addi v89 v90
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_40 : BitVec 32 := 0#32
  let v86 : BitVec 32 := Scalar.xori v67 c0_i32_40
  let c2_i32_45 : BitVec 32 := 2#32
  let c0_i32_46 : BitVec 32 := 0#32
  let v92 : BitVec 1 := Scalar.cmpi .eq c2_i32_45 c0_i32_46
  let c1_i32_47 : BitVec 32 := 1#32
  let v93 : BitVec 32 := Scalar.select v92 c1_i32_47 c2_i32_45
  let v94 : BitVec 32 := Scalar.remsi v87 v93
  let c0_i32_49 : BitVec 32 := 0#32
  let v96 : BitVec 1 := Scalar.cmpi .slt v94 c0_i32_49
  let c0_i32_50 : BitVec 32 := 0#32
  let v97 : BitVec 1 := Scalar.cmpi .slt v93 c0_i32_50
  let v98 : BitVec 1 := Scalar.xori v96 v97
  let c0_i32_48 : BitVec 32 := 0#32
  let v95 : BitVec 1 := Scalar.cmpi .ne v94 c0_i32_48
  let v99 : BitVec 1 := Scalar.andi v98 v95
  let v100 : BitVec 32 := Scalar.addi v94 v93
  let v101 : BitVec 32 := Scalar.select v99 v100 v94
  let v102 : BitVec 32 := Scalar.xori v86 v101
  let v103 : BitVec 32 := Scalar.addi v91 v102
  let c1_i32_1178 : BitVec 32 := 1#32
  let v1201 : BitVec 32 := Scalar.muli v103 c1_i32_1178
  let v1202 : BitVec 32 := Scalar.addi c0_i32_1179 v1201
  v1202.toNat
def k0_dev34 (d0 : Dev nD) : Nat :=
  let c0_i32_1218 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_75 : BitVec 32 := 2#32
  let v142 : BitVec 32 := Scalar.xori v19 c2_i32_75
  let c8_i32_76 : BitVec 32 := 8#32
  let v143 : BitVec 32 := Scalar.muli v142 c8_i32_76
  let c2_i32_77 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_74 : BitVec 32 := 0#32
  let v141 : BitVec 32 := Scalar.xori v46 c0_i32_74
  let v144 : BitVec 32 := Scalar.muli c2_i32_77 v141
  let v145 : BitVec 32 := Scalar.addi v143 v144
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_73 : BitVec 32 := 0#32
  let v140 : BitVec 32 := Scalar.xori v67 c0_i32_73
  let c2_i32_78 : BitVec 32 := 2#32
  let c0_i32_79 : BitVec 32 := 0#32
  let v146 : BitVec 1 := Scalar.cmpi .eq c2_i32_78 c0_i32_79
  let c1_i32_80 : BitVec 32 := 1#32
  let v147 : BitVec 32 := Scalar.select v146 c1_i32_80 c2_i32_78
  let v148 : BitVec 32 := Scalar.remsi v141 v147
  let c0_i32_82 : BitVec 32 := 0#32
  let v150 : BitVec 1 := Scalar.cmpi .slt v148 c0_i32_82
  let c0_i32_83 : BitVec 32 := 0#32
  let v151 : BitVec 1 := Scalar.cmpi .slt v147 c0_i32_83
  let v152 : BitVec 1 := Scalar.xori v150 v151
  let c0_i32_81 : BitVec 32 := 0#32
  let v149 : BitVec 1 := Scalar.cmpi .ne v148 c0_i32_81
  let v153 : BitVec 1 := Scalar.andi v152 v149
  let v154 : BitVec 32 := Scalar.addi v148 v147
  let v155 : BitVec 32 := Scalar.select v153 v154 v148
  let v156 : BitVec 32 := Scalar.xori v140 v155
  let v157 : BitVec 32 := Scalar.addi v145 v156
  let c1_i32_1217 : BitVec 32 := 1#32
  let v1238 : BitVec 32 := Scalar.muli v157 c1_i32_1217
  let v1239 : BitVec 32 := Scalar.addi c0_i32_1218 v1238
  v1239.toNat
def k0_dev35 (d0 : Dev nD) : Nat :=
  let c0_i32_1257 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_53 : BitVec 32 := 0#32
  let v106 : BitVec 32 := Scalar.xori v19 c0_i32_53
  let c8_i32_54 : BitVec 32 := 8#32
  let v107 : BitVec 32 := Scalar.muli v106 c8_i32_54
  let c2_i32_55 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_52 : BitVec 32 := 2#32
  let v105 : BitVec 32 := Scalar.xori v46 c2_i32_52
  let v108 : BitVec 32 := Scalar.muli c2_i32_55 v105
  let v109 : BitVec 32 := Scalar.addi v107 v108
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c0_i32_51 : BitVec 32 := 0#32
  let v104 : BitVec 32 := Scalar.xori v67 c0_i32_51
  let c2_i32_56 : BitVec 32 := 2#32
  let c0_i32_57 : BitVec 32 := 0#32
  let v110 : BitVec 1 := Scalar.cmpi .eq c2_i32_56 c0_i32_57
  let c1_i32_58 : BitVec 32 := 1#32
  let v111 : BitVec 32 := Scalar.select v110 c1_i32_58 c2_i32_56
  let v112 : BitVec 32 := Scalar.remsi v105 v111
  let c0_i32_60 : BitVec 32 := 0#32
  let v114 : BitVec 1 := Scalar.cmpi .slt v112 c0_i32_60
  let c0_i32_61 : BitVec 32 := 0#32
  let v115 : BitVec 1 := Scalar.cmpi .slt v111 c0_i32_61
  let v116 : BitVec 1 := Scalar.xori v114 v115
  let c0_i32_59 : BitVec 32 := 0#32
  let v113 : BitVec 1 := Scalar.cmpi .ne v112 c0_i32_59
  let v117 : BitVec 1 := Scalar.andi v116 v113
  let v118 : BitVec 32 := Scalar.addi v112 v111
  let v119 : BitVec 32 := Scalar.select v117 v118 v112
  let v120 : BitVec 32 := Scalar.xori v104 v119
  let v121 : BitVec 32 := Scalar.addi v109 v120
  let c1_i32_1256 : BitVec 32 := 1#32
  let v1275 : BitVec 32 := Scalar.muli v121 c1_i32_1256
  let v1276 : BitVec 32 := Scalar.addi c0_i32_1257 v1275
  v1276.toNat
abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S64x16384 : Shape := ⟨2, ![64, 16384]⟩
abbrev S16384x1024 : Shape := ⟨2, ![16384, 1024]⟩
abbrev S1024x16384 : Shape := ⟨2, ![1024, 16384]⟩
abbrev S64x1024 : Shape := ⟨2, ![64, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x16384, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S1024x16384, .f32⟩
  | .hbm, ⟨5, _⟩ => ⟨S1024x16384, .f32⟩
  | .hbm, ⟨6, _⟩ => ⟨S1024x16384, .f32⟩
  | .hbm, ⟨7, _⟩ => ⟨S64x1024, .f32⟩
  | .hbm, ⟨8, _⟩ => ⟨S_, .f32⟩
  | .hbm, ⟨9, _⟩ => ⟨S64x1024, .f32⟩
  | .hbm, ⟨10, _⟩ => ⟨S64x1024, .f32⟩
  | .hbm, ⟨11, _⟩ => ⟨S64x16384, .f32⟩
  | .hbm, ⟨12, _⟩ => ⟨S64x1024, .f32⟩
  | .hbm, ⟨13, _⟩ => ⟨S_, .f32⟩
  | .hbm, ⟨14, _⟩ => ⟨S64x1024, .f32⟩
  | .hbm, ⟨15, _⟩ => ⟨S64x1024, .f32⟩
  | .hbm, ⟨16, _⟩ => ⟨S64x16384, .f32⟩
  | .hbm, ⟨17, _⟩ => ⟨S64x1024, .f32⟩
  | .hbm, ⟨18, _⟩ => ⟨S_, .f32⟩
  | .hbm, ⟨19, _⟩ => ⟨S64x1024, .f32⟩
  | .hbm, ⟨20, _⟩ => ⟨S64x1024, .f32⟩
  | .hbm, ⟨21, _⟩ => ⟨S64x16384, .f32⟩
  | _, _ => ⟨S64x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Struct.lean ====
/- The kernel's body written with its structure: three layers, each a start of two column halves, four
   rounds of exchange-and-add on both halves, and a last round that feeds the second product. Every
   buffer, slot and destination is a function of its index, so that one lemma per step serves all of
   them. `cc0_body_eq` says that the printed body is this one. -/
module

public import proofs.«01_k».proof.Proof.Gen.KernelIdeal
public import proofs.«01_k».proof.Proof.Gen.KernelIdeal.Skeleton

@[expose] public section

noncomputable section

namespace Cert.KernelIdeal.Mlp

open Idealize.ShloMosaic Idealize.ShloMosaic.TcCoe Idealize.SL.Sem
open Cert.KernelIdeal.Gen

/-! ## Buffers and their parts -/

/-- The running sums (two column halves), the rounded copies to send, and the thirty landing slots. -/
abbrev accB : Memref sig .tc .vmem S2x64x512 .f32 := Memref.whole cc0_scratch0
abbrev sndB : Memref sig .tc .vmem S2x64x512 .bf16 := Memref.whole cc0_scratch1
abbrev rcvB : Memref sig .tc .vmem S30x64x512 .bf16 := Memref.whole cc0_scratch2

theorem half_inb : ∀ (k : Fin 2) (a : Fin 3), (![k.val, 0, 0] : Fin 3 → Nat) a + S1x64x512.size a ≤ S2x64x512.size a := by decide
theorem slot_inb : ∀ (s : Fin 30) (a : Fin 3), (![s.val, 0, 0] : Fin 3 → Nat) a + S1x64x512.size a ≤ S30x64x512.size a := by decide
theorem sem_inb : ∀ (s : Fin 30) (a : Fin 1), (![s.val] : Fin 1 → Nat) a + S1.size a ≤ S30.size a := by decide
theorem winHalf_inb : ∀ (k : Fin 2) (a : Fin 2), (![0, 512 * k.val] : Fin 2 → Nat) a + S512x512.size a ≤ S512x1024.size a := by decide
theorem woutHalf_inb : ∀ (k : Fin 2) (a : Fin 2), (![512 * k.val, 0] : Fin 2 → Nat) a + S512x512.size a ≤ S1024x512.size a := by decide

/-- Half `k` of a two-half buffer; slot `s` of the landing buffer; half `k` of the columns of a first
    weight; half `k` of the rows of a second weight; all of an activation block. -/
abbrev halfR (k : Fin 2) : Rect S2x64x512 := Rect.unit (s := S2x64x512) ![k.val, 0, 0] S1x64x512.size (half_inb k)
abbrev slotR (s : Fin 30) : Rect S30x64x512 := Rect.unit (s := S30x64x512) ![s.val, 0, 0] S1x64x512.size (slot_inb s)
abbrev winR (k : Fin 2) : Rect S512x1024 := Rect.unit (s := S512x1024) ![0, 512 * k.val] S512x512.size (winHalf_inb k)
abbrev woutR (k : Fin 2) : Rect S1024x512 := Rect.unit (s := S1024x512) ![512 * k.val, 0] S512x512.size (woutHalf_inb k)
abbrev allR : Rect S64x512 := Rect.unit (s := S64x512) ![0, 0] S64x512.size inb_S64x512_S64x512_0_0

/-- Half `k` of the sending buffer and landing slot `s`, as the transfers address them. -/
abbrev sndM (k : Fin 2) : Memref sig .tc .vmem S64x512 .bf16 :=
  (sndB.slice (halfR k) (fun _ => rfl)).squeeze S64x512 squeezes_S1x64x512_S64x512
abbrev rcvM (s : Fin 30) : Memref sig .tc .vmem S64x512 .bf16 :=
  (rcvB.slice (slotR s) (fun _ => rfl)).squeeze S64x512 squeezes_S1x64x512_S64x512

/-- The semaphores of slot `s`: departure and arrival. -/
abbrev sSem (s : Fin 30) : DmaSem sig :=
  ((cc0_scratch3.slice (Rect.unit (s := S30) ![s.val] S1.size (sem_inb s))).squeeze S_ squeezes_S1_S_).sem
abbrev rSem (s : Fin 30) : DmaSem sig :=
  ((cc0_scratch4.slice (Rect.unit (s := S30) ![s.val] S1.size (sem_inb s))).squeeze S_ squeezes_S1_S_).sem

/-- The barrier's semaphore. -/
abbrev barSem : Sem sig := (SemArray.scalar (sig.barrier 0 rfl) : Sems sig S_).sem

/-- Layer `l`'s weights. -/
abbrev winB (l : Fin 3) : Memref sig .tc .vmem S512x1024 .f32 :=
  match l with | 0 => Memref.whole cc0_stg1_0 | 1 => Memref.whole cc0_stg3_0 | 2 => Memref.whole cc0_stg5_0
abbrev woutB (l : Fin 3) : Memref sig .tc .vmem S1024x512 .f32 :=
  match l with | 0 => Memref.whole cc0_stg2_0 | 1 => Memref.whole cc0_stg4_0 | 2 => Memref.whole cc0_stg6_0

theorem wordsSnd : ∀ k : Fin 2, (halfR k).WholeWords (EltTy.packing .bf16) := by decide
theorem packedSnd : ∀ k : Fin 2, (halfR k).PackedRows (EltTy.packing .bf16) := by decide
theorem wordsRcv : ∀ s : Fin 30, (slotR s).WholeWords (EltTy.packing .bf16) := by decide

/-! ## Destinations -/

/-- The device that device `c` signals at the `m`-th step of the hand-shake. -/
def sigDev (c : Dev nD) (m : Fin 5) : Dev nD :=
  match m with
  | 0 => ⟨k0_dev1 c, k0_dev1_lt c⟩ | 1 => ⟨k0_dev2 c, k0_dev2_lt c⟩ | 2 => ⟨k0_dev3 c, k0_dev3_lt c⟩
  | 3 => ⟨k0_dev4 c, k0_dev4_lt c⟩ | 4 => ⟨k0_dev5 c, k0_dev5_lt c⟩

/-- The device that device `c` sends slot `s` to. -/
def dstDev (c : Dev nD) (s : Fin 30) : Dev nD :=
  (![⟨k0_dev6 c, k0_dev6_lt c⟩, ⟨k0_dev7 c, k0_dev7_lt c⟩, ⟨k0_dev8 c, k0_dev8_lt c⟩,
    ⟨k0_dev9 c, k0_dev9_lt c⟩, ⟨k0_dev10 c, k0_dev10_lt c⟩, ⟨k0_dev11 c, k0_dev11_lt c⟩,
    ⟨k0_dev12 c, k0_dev12_lt c⟩, ⟨k0_dev13 c, k0_dev13_lt c⟩, ⟨k0_dev14 c, k0_dev14_lt c⟩,
    ⟨k0_dev15 c, k0_dev15_lt c⟩, ⟨k0_dev16 c, k0_dev16_lt c⟩, ⟨k0_dev17 c, k0_dev17_lt c⟩,
    ⟨k0_dev18 c, k0_dev18_lt c⟩, ⟨k0_dev19 c, k0_dev19_lt c⟩, ⟨k0_dev20 c, k0_dev20_lt c⟩,
    ⟨k0_dev21 c, k0_dev21_lt c⟩, ⟨k0_dev22 c, k0_dev22_lt c⟩, ⟨k0_dev23 c, k0_dev23_lt c⟩,
    ⟨k0_dev24 c, k0_dev24_lt c⟩, ⟨k0_dev25 c, k0_dev25_lt c⟩, ⟨k0_dev26 c, k0_dev26_lt c⟩,
    ⟨k0_dev27 c, k0_dev27_lt c⟩, ⟨k0_dev28 c, k0_dev28_lt c⟩, ⟨k0_dev29 c, k0_dev29_lt c⟩,
    ⟨k0_dev30 c, k0_dev30_lt c⟩, ⟨k0_dev31 c, k0_dev31_lt c⟩, ⟨k0_dev32 c, k0_dev32_lt c⟩,
    ⟨k0_dev33 c, k0_dev33_lt c⟩, ⟨k0_dev34 c, k0_dev34_lt c⟩, ⟨k0_dev35 c, k0_dev35_lt c⟩] : Fin 30 → Dev nD) s

/-- Layer `l`, round `r`, half `k` uses slot `10 l + 2 r + k`. -/
abbrev slot (l : Fin 3) (r : Fin 5) (k : Fin 2) : Fin 30 := ⟨(l.val * 5 + r.val) * 2 + k.val, by omega⟩

/-! ## Values -/

variable {F : FTy → Type} [FloatOps F]

/-- A block's product with half a weight. -/
def mm (x : FVec F S64x512 .f32) (w : Vec F S512x512 .f32) : FVec F S64x512 .f32 :=
  matmul dot_S64x512_S512x512_S64x512_1_0_0_1_n_n none x (shapeCast S512x512 w shapeCasts_S512x512_S512x512 : FVec F S512x512 .f32)
    (constant S64x512 .f32 0x00000000#32 : FVec F S64x512 .f32)

/-- A half as the buffer keeps it, and the rounded half as the transfers take it. -/
def putAcc (v : FVec F S64x512 .f32) : FVec F S1x64x512 .f32 := shapeCast S1x64x512 v shapeCasts_S64x512_S1x64x512
def rnd (v : FVec F S64x512 .f32) : FVec F S64x512 .bf16 := truncf .bf16 v bitsLt_bf16_f32
def putSnd (v : FVec F S64x512 .f32) : FVec F S1x64x512 .bf16 := shapeCast S1x64x512 (rnd v) shapeCasts_S64x512_S1x64x512

/-- The running sum and what a partner sent, added. -/
def addIn (a : FVec F S64x512 .f32) (b : FVec F S64x512 .bf16) : FVec F S64x512 .f32 :=
  addf a (extf .f32 b bitsLt_bf16_f32 : FVec F S64x512 .f32)
def addLd (a : Vec F S1x64x512 .f32) (b : Vec F S1x64x512 .bf16) : FVec F S64x512 .f32 :=
  addIn (shapeCast S64x512 a shapeCasts_S1x64x512_S64x512 : FVec F S64x512 .f32)
    (shapeCast S64x512 b shapeCasts_S1x64x512_S64x512 : FVec F S64x512 .bf16)

/-- A block of zeros, the positive part, and one half's contribution to the layer's result. -/
def zeros : FVec F S64x512 .f32 := broadcast S64x512 (Scalar.ofBits .f32 0x00000000#32 : F .f32)
def relu (h : FVec F S64x512 .f32) : FVec F S64x512 .f32 := maximumf h zeros
def outAdd (o : FVec F S64x512 .f32) (h : FVec F S64x512 .f32) (w : Vec F S512x512 .f32) : FVec F S64x512 .f32 :=
  addf o (mm (relu h) w)

/-! ## The program -/

variable (F) in
abbrev P (α : Type) : Type 1 := Prog (TpuEff nD τ sig (Elt F) Λ₀ .tc) α

/-- Device `c` sends half `k` on slot `s`. -/
abbrev sendP (c : Dev nD) (s : Fin 30) (k : Fin 2) : P F PUnit :=
  Prog.lift (.enqueueDma (sndM k) (.remote (Dev.tc (dstDev c s)) (rcvM s) (.dma (sSem s))) (.dma (rSem s))
    (((Memref.isWhole_whole cc0_scratch1).wordExact_slice rfl _ (wordsSnd k)).reshape _ _)
    (((Memref.isWhole_whole cc0_scratch2).wordExact_slice rfl _ (wordsRcv s)).reshape _ _) ⟨⟨rfl, Or.inl rfl⟩, trivial⟩)

/-- The wait for the departure of half `k` on slot `s`, and for the arrival in slot `s`. -/
abbrev waitSP (s : Fin 30) (k : Fin 2) : P F PUnit :=
  Prog.lift (.waitDma2 (sSem s) (rcvM s) (sndM k)
    (((Memref.isWhole_whole cc0_scratch2).wordExact_slice rfl _ (wordsRcv s)).reshape _ _)
    (((Memref.isWhole_whole cc0_scratch1).wordExact_slice rfl _ (wordsSnd k)).reshape _ _))
abbrev waitRP (s : Fin 30) (k : Fin 2) : P F PUnit :=
  Prog.lift (.waitDma2 (rSem s) (sndM k) (rcvM s)
    (((Memref.isWhole_whole cc0_scratch1).wordExact_slice rfl _ (wordsSnd k)).reshape _ _)
    (((Memref.isWhole_whole cc0_scratch2).wordExact_slice rfl _ (wordsRcv s)).reshape _ _))

abbrev ldAcc (k : Fin 2) : P F (Vec F S1x64x512 .f32) :=
  Prog.lift (.load accB (halfR k).toLoadRect (View.loadsAt_vmem h_S1x64x512))
abbrev ldSnd (k : Fin 2) : P F (Vec F S1x64x512 .bf16) :=
  Prog.lift (.load sndB (halfR k).toLoadRect (View.loadsAt_vmem h_S1x64x512))
abbrev ldRcv (s : Fin 30) : P F (Vec F S1x64x512 .bf16) :=
  Prog.lift (.load rcvB (slotR s).toLoadRect (View.loadsAt_vmem h_S1x64x512))
abbrev ldWin (l : Fin 3) (k : Fin 2) : P F (Vec F S512x512 .f32) :=
  Prog.lift (.load (winB l) (winR k).toLoadRect (View.loadsAt_vmem h_S512x512))
abbrev ldWout (l : Fin 3) (k : Fin 2) : P F (Vec F S512x512 .f32) :=
  Prog.lift (.load (woutB l) (woutR k).toLoadRect (View.loadsAt_vmem h_S512x512))
abbrev stAcc (k : Fin 2) (v : FVec F S1x64x512 .f32) : P F PUnit :=
  Prog.lift (.store accB (halfR k) v Finset.univ (View.stores_vmem_bits_univ h_S1x64x512 rfl) (.inl rfl))
abbrev stSnd (k : Fin 2) (v : FVec F S1x64x512 .bf16) : P F PUnit :=
  Prog.lift (.store sndB (halfR k) v Finset.univ (View.stores_vmem h_S1x64x512
    ((Memref.isWhole_whole cc0_scratch1).storeExact_slice rfl _ (packedSnd k)) (fun _ => rfl)) (.inl rfl))

/-- Record `v` as half `k`'s running sum, round it into the sending buffer and send it on slot `s`. -/
def putP (c : Dev nD) (s : Fin 30) (k : Fin 2) (v : FVec F S64x512 .f32) : P F PUnit := do
  let _ ← ldAcc k
  stAcc k (putAcc v)
  let _ ← ldSnd k
  stSnd k (putSnd v)
  sendP c s k

/-- Layer `l`, half `k`: the device's own product, sent on the first round's slot. -/
def startP (c : Dev nD) (l : Fin 3) (x : FVec F S64x512 .f32) (k : Fin 2) : P F PUnit := do
  let w ← ldWin l k
  putP c (slot l 0 k) k (mm x w)

/-- Collect round `s` of half `k`: both waits, then the sum of what is held and what arrived. -/
def takeP (s : Fin 30) (k : Fin 2) : P F (FVec F S64x512 .f32) := do
  waitSP s k
  waitRP s k
  let a ← ldAcc k
  let b ← ldRcv s
  pure (addLd a b)

/-- Collect round `r` of half `k` of layer `l` and send the sum on in the next round. -/
def midP (c : Dev nD) (l : Fin 3) (r r' : Fin 5) (k : Fin 2) : P F PUnit := do
  let v ← takeP (slot l r k) k
  putP c (slot l r' k) k v

/-- Collect the last round of half `k` and add its contribution to the layer's result. -/
def lastP (l : Fin 3) (o : FVec F S64x512 .f32) (k : Fin 2) : P F (FVec F S64x512 .f32) := do
  let h ← takeP (slot l 4 k) k
  let w ← ldWout l k
  pure (outAdd o h w)

/-- One layer. -/
def layerP (c : Dev nD) (l : Fin 3) (x : FVec F S64x512 .f32) : P F (FVec F S64x512 .f32) := do
  startP c l x 0
  startP c l x 1
  midP c l 0 1 0
  midP c l 0 1 1
  midP c l 1 2 0
  midP c l 1 2 1
  midP c l 2 3 0
  midP c l 2 3 1
  midP c l 3 4 0
  midP c l 3 4 1
  let o ← lastP l zeros 0
  lastP l o 1

/-- The hand-shake with the five partners. -/
def shakeP (c : Dev nD) : P F PUnit := do
  semSignalWord (sigDev c 0) barSem 1#32
  semSignalWord (sigDev c 1) barSem 1#32
  semSignalWord (sigDev c 2) barSem 1#32
  semSignalWord (sigDev c 3) barSem 1#32
  semSignalWord (sigDev c 4) barSem 1#32
  semWaitWord barSem 5#32

/-- The whole body. -/
def bodyP : P F PUnit := do
  let c ← Prog.lift .deviceId
  shakeP c
  let x ← Prog.lift (.load (Memref.whole cc0_stg0_0) allR.toLoadRect (View.loadsAt_vmem h_S64x512))
  let y ← layerP c 0 (shapeCast S64x512 x shapeCasts_S64x512_S64x512 : FVec F S64x512 .f32)
  let y ← layerP c 1 y
  let y ← layerP c 2 y
  let _ ← Prog.lift (.load (Memref.whole cc0_stg7_0) allR.toLoadRect (View.loadsAt_vmem h_S64x512))
  Prog.lift (.store (Memref.whole cc0_stg7_0) allR y Finset.univ (View.stores_vmem_bits_univ h_S64x512 rfl) (.inl rfl))
  pure ⟨⟩

set_option maxRecDepth 100000 in
set_option maxHeartbeats 0 in
/-- The printed body is the structured one. -/
theorem cc0_body_eq : cc0_body (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_stg6_0) (Memref.isWhole_whole _) (Memref.whole cc0_stg7_0) (Memref.isWhole_whole _)
    (Memref.whole cc0_scratch0) (Memref.isWhole_whole _) (Memref.whole cc0_scratch1) (Memref.isWhole_whole _)
    (Memref.whole cc0_scratch2) (Memref.isWhole_whole _) cc0_scratch3 cc0_scratch4 = bodyP := rfl

end Cert.KernelIdeal.Mlp

end
-- ==== Proof.Proto.lean ====
/- The exchange protocol: who talks to whom on which slot, what each slot carries, and the one-round
   schedule of the barrier cell, the thirty departure cells and the thirty arrival cells of a device. -/
module

public import proofs.«01_k».proof.Proof.Struct
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-- Protocol duties are named by the five masks. -/
abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## Partners -/

/-- The five masks a partner's number differs by: one step along each axis of the mesh (the second steps
    along a snake, so two bits change at once). -/
def mask (b : Fin 5) : ℕ := (![1, 3, 4, 8, 16] : Fin 5 → ℕ) b

/-- The partner of device `c` under mask `b`. -/
def par (b : Fin 5) (c : Dev nD) : Dev nD := ⟨c.val ^^^ mask b, by revert b c; decide +kernel⟩

theorem par_par : ∀ (b : Fin 5) (c : Dev nD), par b (par b c) = c := by decide +kernel

/-- The mask used in round `r` of half `k`. -/
def bit (k : Fin 2) (r : Fin 5) : Fin 5 :=
  if k = 0 then r else (![3, 0, 4, 1, 2] : Fin 5 → Fin 5) r

/-- The layer, the round and the half a slot belongs to, and its mask. -/
def lOf (s : Fin 30) : Fin 3 := ⟨s.val / 10, by omega⟩
def rOf (s : Fin 30) : Fin 5 := ⟨s.val / 2 % 5, by omega⟩
def kOf (s : Fin 30) : Fin 2 := ⟨s.val % 2, by omega⟩
def flip (s : Fin 30) : Fin 5 := bit (kOf s) (rOf s)

theorem lOf_slot (l : Fin 3) (r : Fin 5) (k : Fin 2) : lOf (slot l r k) = l := Fin.ext (by simp only [lOf]; omega)
theorem rOf_slot (l : Fin 3) (r : Fin 5) (k : Fin 2) : rOf (slot l r k) = r := Fin.ext (by simp only [rOf]; omega)
theorem kOf_slot (l : Fin 3) (r : Fin 5) (k : Fin 2) : kOf (slot l r k) = k := Fin.ext (by simp only [kOf]; omega)

/-- The partner on slot `s`. -/
def pr (s : Fin 30) (c : Dev nD) : Dev nD := par (flip s) c

theorem pr_pr (s : Fin 30) (c : Dev nD) : pr s (pr s c) = c := par_par _ _
theorem pr_slot (l : Fin 3) (r : Fin 5) (k : Fin 2) (c : Dev nD) : pr (slot l r k) c = par (bit k r) c := by
  unfold pr flip; rw [kOf_slot, rOf_slot]

def parE (b : Fin 5) : Dev nD ≃ Dev nD := ⟨par b, par b, par_par b, par_par b⟩
def prE (s : Fin 30) : Dev nD ≃ Dev nD := parE (flip s)

/-- The hand-shake signals the five partners, and slot `s` is sent to the partner on it. -/
theorem sigDev_eq : ∀ (c : Dev nD) (b : Fin 5), sigDev c b = par b c := by decide +kernel
theorem dstDev_eq : ∀ (c : Dev nD) (s : Fin 30), dstDev c s = pr s c := by decide +kernel

/-! ## Cells -/

/-- A device's protocol cells: the barrier's, then the departure cells, then the arrival cells. -/
abbrev CI : Type := Unit ⊕ (Fin 30 ⊕ Fin 30)

abbrev osem : Fin 30 ⊕ Fin 30 → SemLoc sig := fun | .inl s => .dma (sSem s) | .inr s => .dma (rSem s)
abbrev csem : CI → SemLoc sig := fun | .inl _ => .reg barSem | .inr x => osem x

theorem osem_inj : Function.Injective osem := by decide +kernel
theorem csem_inj : Function.Injective csem := by
  intro a b h
  match a, b, h with
  | .inl _, .inl _, _ => rfl
  | .inl _, .inr (.inl _), h => cases h
  | .inl _, .inr (.inr _), h => cases h
  | .inr (.inl _), .inl _, h => cases h
  | .inr (.inr _), .inl _, h => cases h
  | .inr x, .inr y, h => exact congrArg Sum.inr (osem_inj h)

abbrev kcell (ck : Dev nD × CI) : GSem nD τ sig := ((ck.1 : Thread nD τ), csem ck.2)
abbrev barC (c : Dev nD) : GSem nD τ sig := ((c : Thread nD τ), .reg barSem)
abbrev sndC (c : Dev nD) (s : Fin 30) : GSem nD τ sig := ((c : Thread nD τ), .dma (sSem s))
abbrev rcvC (c : Dev nD) (s : Fin 30) : GSem nD τ sig := ((c : Thread nD τ), .dma (rSem s))

theorem kcell_inj : Function.Injective (kcell : Dev nD × CI → GSem nD τ sig) := by
  rintro ⟨c, k⟩ ⟨c', k'⟩ h
  have h1 : c = c' := congrArg (fun g : GSem nD τ sig => g.1.1) h
  have h2 : k = k' := csem_inj (congrArg (fun g : GSem nD τ sig => g.2) h)
  rw [h1, h2]

/-- Which protocol cell a semaphore is, if any. -/
def dec (sm : SemLoc sig) : Option CI := if h : ∃ i, csem i = sm then some h.choose else none

theorem dec_csem (i : CI) : dec (csem i) = some i := by
  have h : ∃ j, csem j = csem i := ⟨i, rfl⟩
  unfold dec; rw [dif_pos h]; exact congrArg some (csem_inj h.choose_spec)
theorem dec_bar : dec (.reg barSem) = some (.inl ()) := dec_csem (.inl ())
theorem dec_snd (s : Fin 30) : dec (.dma (sSem s)) = some (.inr (.inl s)) := dec_csem (.inr (.inl s))
theorem dec_rcv (s : Fin 30) : dec (.dma (rSem s)) = some (.inr (.inr s)) := dec_csem (.inr (.inr s))

/-- The credit of one transfer. -/
def N : ℕ := (rcvM 0).view.dmaCredit
theorem N_pos : 0 < N := View.dmaCredit_pos _ (by decide)
theorem credit_rcv (s : Fin 30) : (rcvM s).view.dmaCredit = N := rfl
theorem credit_snd (k : Fin 2) : (sndM k).view.dmaCredit = N := rfl

/-! ## What the transfers carry -/

/-- The blocks as the staging buffers hold them. -/
def stgX (c : Dev nD) : Vec F S64x512 .f32 := (win0_0.blk (0 : Fin 1)).view.read (Elt F) ((s₀ m ρ).mem ((c : Thread nD τ).loc main_arg0))
def stgWin (l : Fin 3) (c : Dev nD) : Vec F S512x1024 .f32 :=
  match l with
  | 0 => (win0_1.blk (0 : Fin 1)).view.read (Elt F) ((s₀ m ρ).mem ((c : Thread nD τ).loc main_arg1))
  | 1 => (win0_3.blk (0 : Fin 1)).view.read (Elt F) ((s₀ m ρ).mem ((c : Thread nD τ).loc main_arg2))
  | 2 => (win0_5.blk (0 : Fin 1)).view.read (Elt F) ((s₀ m ρ).mem ((c : Thread nD τ).loc main_arg3))
def stgWout (l : Fin 3) (c : Dev nD) : Vec F S1024x512 .f32 :=
  match l with
  | 0 => (win0_2.blk (0 : Fin 1)).view.read (Elt F) ((s₀ m ρ).mem ((c : Thread nD τ).loc main_arg4))
  | 1 => (win0_4.blk (0 : Fin 1)).view.read (Elt F) ((s₀ m ρ).mem ((c : Thread nD τ).loc main_arg5))
  | 2 => (win0_6.blk (0 : Fin 1)).view.read (Elt F) ((s₀ m ρ).mem ((c : Thread nD τ).loc main_arg6))

/-- Half `k` of each weight. -/
def winV (l : Fin 3) (k : Fin 2) (c : Dev nD) : Vec F S512x512 .f32 := fun j => stgWin m ρ l c ((winR k).emb j)
def woutV (l : Fin 3) (k : Fin 2) (c : Dev nD) : Vec F S512x512 .f32 := fun j => stgWout m ρ l c ((woutR k).emb j)

/-- The running sums of half `k` from own products `X`, after `r` rounds. -/
def sums (k : Fin 2) (X : Dev nD → FVec F S64x512 .f32) : ℕ → Dev nD → FVec F S64x512 .f32
  | 0 => X
  | r + 1 => fun c => addIn (sums k X r c) (rnd (sums k X r (par (bit k (Fin.ofNat 5 r)) c)))

/-- Layer `l`'s running sums from the activations `X`. -/
def layerSum (X : Dev nD → FVec F S64x512 .f32) (l : Fin 3) (k : Fin 2) : ℕ → Dev nD → FVec F S64x512 .f32 :=
  sums k fun c => mm (X c) (winV m ρ l k c)

/-- Layer `l`'s result from the activations `X`. -/
def layerOut (X : Dev nD → FVec F S64x512 .f32) (l : Fin 3) (c : Dev nD) : FVec F S64x512 .f32 :=
  outAdd (outAdd zeros (layerSum m ρ X l 0 5 c) (woutV m ρ l 0 c)) (layerSum m ρ X l 1 5 c) (woutV m ρ l 1 c)

/-- The activations entering layer `n`. -/
def acts : ℕ → Dev nD → FVec F S64x512 .f32
  | 0 => fun c => shapeCast S64x512 (stgX m ρ c) shapeCasts_S64x512_S64x512
  | n + 1 => layerOut m ρ (acts n) (Fin.ofNat 3 n)

theorem acts_succ (l : Fin 3) : acts m ρ (l.val + 1) = layerOut m ρ (acts m ρ l.val) l := by
  show layerOut m ρ _ (Fin.ofNat 3 l.val) = _
  congr 1; exact Fin.ext (Nat.mod_eq_of_lt l.isLt)

/-- The running sum of layer `l`, half `k` on device `c` after `r` rounds. -/
def part (l : Fin 3) (k : Fin 2) (r : ℕ) (c : Dev nD) : FVec F S64x512 .f32 := layerSum m ρ (acts m ρ l.val) l k r c

theorem part_zero (l : Fin 3) (k : Fin 2) (c : Dev nD) : part m ρ l k 0 c = mm (acts m ρ l.val c) (winV m ρ l k c) := rfl
theorem part_succ (l : Fin 3) (k : Fin 2) (r : Fin 5) (c : Dev nD) :
    part m ρ l k (r.val + 1) c = addIn (part m ρ l k r.val c) (rnd (part m ρ l k r.val (par (bit k r) c))) := by
  show addIn _ (rnd (sums k _ r.val (par (bit k (Fin.ofNat 5 r.val)) c))) = _
  rw [show Fin.ofNat 5 r.val = r from Fin.ext (Nat.mod_eq_of_lt r.isLt)]
  rfl

/-- What device `c` sends on slot `s`. -/
def sent (c : Dev nD) (s : Fin 30) : FVec F S64x512 .bf16 := rnd (part m ρ (lOf s) (kOf s) (rOf s).val c)

theorem sent_slot (c : Dev nD) (l : Fin 3) (r : Fin 5) (k : Fin 2) : sent m ρ c (slot l r k) = rnd (part m ρ l k r.val c) := by
  unfold sent; rw [lOf_slot, kOf_slot, rOf_slot]

/-! ## The schedule -/

/-- Landing slot `s` of device `c`, at any contents. -/
def land (c : Dev nD) (s : Fin 30) : sProp 𝕄 := iprop(∃ X, owns (c : Thread nD τ) (rcvM s) fullShare X)

/-- What the signal on mask `b` hands device `c`: the partner's landing slots that `c` sends to. -/
def barPay (c : Dev nD) (b : Fin 5) : sProp 𝕄 := bigSep (Finset.univ.filter fun s => flip s = b) fun s => land (pr s c) s
/-- What an arrival and a departure hand device `c`. -/
def rcvPay (c : Dev nD) (s : Fin 30) : sProp 𝕄 := owns (c : Thread nD τ) (rcvM s) fullShare (sent m ρ (pr s c) s)
def sndPay (c : Dev nD) (s : Fin 30) : sProp 𝕄 := owns (c : Thread nD τ) (sndM (kOf s)) fullShare (sent m ρ c s)

omit [FloatOps F] in
instance land_storable (c : Dev nD) (s : Fin 30) : BI.Storable (upEmb : UEmb _ 𝕄) (land (F := F) c s) := by
  unfold land; infer_instance
omit [FloatOps F] in
instance barPay_storable (c : Dev nD) (b : Fin 5) : BI.Storable (upEmb : UEmb _ 𝕄) (barPay (F := F) c b) := by
  unfold barPay; infer_instance
instance rcvPay_storable (c : Dev nD) (s : Fin 30) : BI.Storable (upEmb : UEmb _ 𝕄) (rcvPay m ρ c s) := by
  unfold rcvPay; infer_instance
instance sndPay_storable (c : Dev nD) (s : Fin 30) : BI.Storable (upEmb : UEmb _ 𝕄) (sndPay m ρ c s) := by
  unfold sndPay; infer_instance

/-- One round per cell: a barrier cell has one unit per mask, any other cell one transfer's credit. -/
def sched : Rounds.Schedule (GSem nD τ sig) (Fin 5) 𝕄 where
  duties g r := if r = 0 ∧ g.1.2 = .tc then
    (match dec g.2 with | some (.inl _) => Finset.univ | some (.inr _) => {0} | none => ∅) else ∅
  unitless _ := False
  amount g _ _ := match dec g.2 with | some (.inl _) => 1 | _ => N
  payload g _ d := match dec g.2 with
    | some (.inl _) => barPay g.1.1 d
    | some (.inr (.inl s)) => sndPay m ρ g.1.1 s
    | some (.inr (.inr s)) => rcvPay m ρ g.1.1 s
    | none => iprop(emp)
  amount_pos g _ _ _ := by
    split
    · exact Nat.one_pos
    · exact N_pos

instance sched_storable (g : GSem nD τ sig) (r : ℕ) (d : Fin 5) :
    BI.Storable (upEmb : UEmb _ 𝕄) ((sched m ρ).payload g r d) := by
  dsimp only [sched]
  split <;> infer_instance

section Sched
variable (c : Dev nD) (s : Fin 30)

theorem duties_bar : (sched m ρ).duties (barC c) 0 = Finset.univ := by
  dsimp only [sched]; rw [if_pos ⟨rfl, rfl⟩, dec_bar]
theorem duties_snd : (sched m ρ).duties (sndC c s) 0 = {0} := by
  dsimp only [sched]; rw [if_pos ⟨rfl, rfl⟩, dec_snd]
theorem duties_rcv : (sched m ρ).duties (rcvC c s) 0 = {0} := by
  dsimp only [sched]; rw [if_pos ⟨rfl, rfl⟩, dec_rcv]
theorem duties_later (g : GSem nD τ sig) : ∀ r, 1 ≤ r → (sched m ρ).duties g r = ∅ :=
  fun r hr => by dsimp only [sched]; rw [if_neg fun h => by omega]

theorem amount_bar (d : Fin 5) : (sched m ρ).amount (barC c) 0 d = 1 := by dsimp only [sched]; rw [dec_bar]
theorem amount_snd (d : Fin 5) : (sched m ρ).amount (sndC c s) 0 d = N := by dsimp only [sched]; rw [dec_snd]
theorem amount_rcv (d : Fin 5) : (sched m ρ).amount (rcvC c s) 0 d = N := by dsimp only [sched]; rw [dec_rcv]

theorem expect_bar : (sched m ρ).expect (barC c) 0 = 5 := by
  unfold Schedule.expect Schedule.amountOf
  rw [duties_bar, Finset.sum_congr rfl fun d _ => amount_bar m ρ c d, Finset.sum_const, Finset.card_univ, Fintype.card_fin, smul_eq_mul]
theorem expect_snd : (sched m ρ).expect (sndC c s) 0 = N := by
  unfold Schedule.expect Schedule.amountOf; rw [duties_snd, Finset.sum_singleton, amount_snd]
theorem expect_rcv : (sched m ρ).expect (rcvC c s) 0 = N := by
  unfold Schedule.expect Schedule.amountOf; rw [duties_rcv, Finset.sum_singleton, amount_rcv]

theorem payload_bar (d : Fin 5) : (sched m ρ).payload (barC c) 0 d = barPay c d := by dsimp only [sched]; rw [dec_bar]
theorem payload_snd (d : Fin 5) : (sched m ρ).payload (sndC c s) 0 d = sndPay m ρ c s := by dsimp only [sched]; rw [dec_snd]
theorem payload_rcv (d : Fin 5) : (sched m ρ).payload (rcvC c s) 0 d = rcvPay m ρ c s := by dsimp only [sched]; rw [dec_rcv]

/-- All that the barrier's round hands over: each landing slot that `c` sends to. -/
theorem rest_bar : bigSep ((sched m ρ).duties (barC c) 0 \ ∅) (fun d => (sched m ρ).payload (barC c) 0 d)
    = bigSep Finset.univ fun s : Fin 30 => land (F := F) (pr s c) s := by
  rw [Finset.sdiff_empty, duties_bar, bigSep_congr (fun d _ => payload_bar m ρ c d), BI.bigSep_fiberwise Finset.univ flip,
    show Finset.univ.image flip = Finset.univ from by decide]
  rfl
theorem rest_snd : bigSep ((sched m ρ).duties (sndC c s) 0 \ ∅) (fun d => (sched m ρ).payload (sndC c s) 0 d) = sndPay m ρ c s := by
  rw [Finset.sdiff_empty, duties_snd, bigSep_singleton, payload_snd]
theorem rest_rcv : bigSep ((sched m ρ).duties (rcvC c s) 0 \ ∅) (fun d => (sched m ρ).payload (rcvC c s) 0 d) = rcvPay m ρ c s := by
  rw [Finset.sdiff_empty, duties_rcv, bigSep_singleton, payload_rcv]

end Sched

/-! ## What is owed, and the levels -/

/-- The transfers device `c` still owes when those on slots below `n` are out, and the signals it still
    owes when those on masks below `n` are out. -/
def owedX (c : Dev nD) (n : ℕ) : CellTallies nD τ sig Unit :=
  ∑ s ∈ (Finset.univ : Finset (Fin 30)).filter (fun s => n ≤ s.val), tallyAt (rcvC (pr s c) s) () N
def owedS (c : Dev nD) (n : ℕ) : CellTallies nD τ sig Unit :=
  ∑ b ∈ (Finset.univ : Finset (Fin 5)).filter (fun b => n ≤ b.val), tallyAt (barC (par b c)) () 1

theorem filter_le_insert {n : ℕ} (i : Fin n) :
    (Finset.univ : Finset (Fin n)).filter (fun j => i.val ≤ j.val) = insert i (Finset.univ.filter fun j => i.val + 1 ≤ j.val) := by
  ext j
  simp only [Finset.mem_filter, Finset.mem_univ, true_and, Finset.mem_insert, Fin.ext_iff]
  omega

theorem owedX_succ (c : Dev nD) (s : Fin 30) : owedX c s.val = owedX c (s.val + 1) + tallyAt (rcvC (pr s c) s) () N := by
  unfold owedX
  rw [filter_le_insert s, Finset.sum_insert (by simp), add_comm]
theorem owedS_succ (c : Dev nD) (b : Fin 5) : owedS c b.val = owedS c (b.val + 1) + tallyAt (barC (par b c)) () 1 := by
  unfold owedS
  rw [filter_le_insert b, Finset.sum_insert (by simp), add_comm]
theorem owedX_last (c : Dev nD) : owedX c 30 = 0 := by
  unfold owedX
  rw [Finset.filter_false_of_mem (fun s _ => by have := s.isLt; omega), Finset.sum_empty]
theorem owedS_last (c : Dev nD) : owedS c 5 = 0 := by
  unfold owedS
  rw [Finset.filter_false_of_mem (fun s _ => by have := s.isLt; omega), Finset.sum_empty]

/-- All that device `c` owes at launch. -/
def owed₀ (c : Dev nD) : CellTallies nD τ sig Unit := owedX c 0 + owedS c 0

def L (g : GSem nD τ sig) : Finset Unit := if g.1.2 = .tc then {()} else ∅
/-- Barrier cells at level 1, arrival cells in slot order above them, everything else at 0. -/
def lv (g : GSem nD τ sig) (_ : Unit) : ℕ :=
  match dec g.2 with | some (.inl _) => 1 | some (.inr (.inr s)) => s.val + 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barC c) u = 1 := by dsimp only [lv]; rw [dec_bar]
theorem lv_snd (c : Dev nD) (s : Fin 30) (u : Unit) : lv (sndC c s) u = 0 := by dsimp only [lv]; rw [dec_snd]
theorem lv_rcv (c : Dev nD) (s : Fin 30) (u : Unit) : lv (rcvC c s) u = s.val + 2 := by dsimp only [lv]; rw [dec_rcv]

theorem sum_pos_of {I : Type} (S : Finset I) (f : I → CellTallies nD τ sig Unit) {g : GSem nD τ sig} {u : Unit}
    (h : 0 < (∑ i ∈ S, f i) g u) : ∃ i ∈ S, 0 < f i g u := by
  by_contra hn
  push Not at hn
  rw [Finset.sum_apply, Finsupp.finset_sum_apply] at h
  exact absurd h (by rw [Finset.sum_eq_zero fun i hi => Nat.le_zero.mp (hn i hi)]; exact Nat.lt_irrefl 0)

theorem tally_pos {g g' : GSem nD τ sig} {u : Unit} {n : ℕ} (h : 0 < (tallyAt g () n : CellTallies nD τ sig Unit) g' u) : g' = g := by
  rw [tallyAt_apply] at h
  by_contra hn
  rw [if_neg (fun h' => hn h'.1)] at h
  exact Nat.lt_irrefl 0 h

theorem owedX_pos {c : Dev nD} {n : ℕ} {g : GSem nD τ sig} {u : Unit} (h : 0 < owedX c n g u) :
    ∃ s : Fin 30, n ≤ s.val ∧ g = rcvC (pr s c) s := by
  obtain ⟨s, hs, h⟩ := sum_pos_of _ _ h
  exact ⟨s, (Finset.mem_filter.mp hs).2, tally_pos h⟩
theorem owedS_pos {c : Dev nD} {n : ℕ} {g : GSem nD τ sig} {u : Unit} (h : 0 < owedS c n g u) : ∃ b : Fin 5, g = barC (par b c) := by
  obtain ⟨b, hb, h⟩ := sum_pos_of _ _ h
  exact ⟨b, tally_pos h⟩
theorem owed₀_pos {c : Dev nD} {g : GSem nD τ sig} {u : Unit} (h : 0 < owed₀ c g u) :
    (∃ s : Fin 30, g = rcvC (pr s c) s) ∨ ∃ b : Fin 5, g = barC (par b c) := by
  unfold owed₀ at h
  rw [Pi.add_apply, Finsupp.add_apply] at h
  rcases Nat.add_pos_iff_pos_or_pos.mp h with h | h
  · obtain ⟨s, -, h⟩ := owedX_pos h; exact .inl ⟨s, h⟩
  · exact .inr (owedS_pos h)

/-- The levels, on record. -/
def levs : sProp 𝕄 := levAts L lv
instance levs_persistent : BI.Persistent (levs (F := F)) := by unfold levs; infer_instance

/-- A device may wait on a cell below the level of everything it owes. -/
theorem mayWait_of (c : Dev nD) (sm : SemLoc sig) (O : CellTallies nD τ sig Unit) (n : ℕ) (hn : lv ((c : Thread nD τ), sm) () = n)
    (hO : ∀ g u, 0 < O g u → g.1.2 = .tc ∧ n < lv g u) : levs (F := F) ⊢ MayWait (c : Thread nD τ) sm () O :=
  show (levAts L lv : sProp 𝕄) ⊢ MayWait (c : Thread nD τ) sm () O from MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn.le)
    (fun g u hg => (hO g u hg).2)

/-- At its barrier, a device owes transfers only; -/
theorem mayWait_bar (c : Dev nD) : levs (F := F) ⊢ MayWait (c : Thread nD τ) (.reg barSem) () (owedX c 0) :=
  mayWait_of c _ _ 1 (lv_bar c ()) fun g u h => by
    obtain ⟨s, -, rfl⟩ := owedX_pos h
    exact ⟨rfl, by rw [lv_rcv]; omega⟩
/-- at a departure, likewise; -/
theorem mayWait_snd (c : Dev nD) (s : Fin 30) (n : ℕ) : levs (F := F) ⊢ MayWait (c : Thread nD τ) (.dma (sSem s)) () (owedX c n) :=
  mayWait_of c _ _ 0 (lv_snd c s ()) fun g u h => by
    obtain ⟨s, -, rfl⟩ := owedX_pos h
    exact ⟨rfl, by rw [lv_rcv]; omega⟩
/-- at an arrival, transfers on later slots only; -/
theorem mayWait_rcv (c : Dev nD) (s : Fin 30) (n : ℕ) (hn : s.val < n) :
    levs (F := F) ⊢ MayWait (c : Thread nD τ) (.dma (rSem s)) () (owedX c n) :=
  mayWait_of c _ _ (s.val + 2) (lv_rcv c s ()) fun g u h => by
    obtain ⟨s', h', rfl⟩ := owedX_pos h
    exact ⟨rfl, by rw [lv_rcv]; omega⟩
/-- and when staging, at most what it owes at launch. -/
theorem mayWait_stage (c : Dev nD) (q : DmaSem sig) (hq : ∀ i, osem i ≠ .dma q) (O : CellTallies nD τ sig Unit) (hO : O = owed₀ c ∨ O = 0) :
    levs (F := F) ⊢ MayWait (c : Thread nD τ) (.dma q) () O := by
  have hd : dec (.dma q) = none := by
    unfold dec; rw [dif_neg]
    rintro ⟨i, hi⟩
    rcases i with i | i
    · cases hi
    · exact hq i hi
  refine mayWait_of c _ _ 0 (by dsimp only [lv]; rw [hd]) fun g u h => ?_
  rcases hO with rfl | rfl
  · rcases owed₀_pos h with ⟨s, rfl⟩ | ⟨b, rfl⟩
    · exact ⟨rfl, by rw [lv_rcv]; omega⟩
    · exact ⟨rfl, by rw [lv_bar]; omega⟩
  · exact absurd h (Nat.lt_irrefl 0)

end Cert.KernelIdeal.Mlp

end
-- ==== Proof.Views.lean ====
/- Loads and stores through a whole buffer, where only one slice of it is held: the slice is held as the
   transfers address it, with its unit axis dropped. -/
module

public import proofs.«01_k».proof.Proof.Proto
public import Idealize.ShloMosaic.Lib.Pipeline.Value

@[expose] public section

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

abbrev 𝒱₀ : Variants := Variants.none

/-- What it takes to run `p` on device `c`'s TensorCore up to `Q`. -/
abbrev wpc (c : Dev nD) {α : Type} (p : P F α) (Q : α → sProp 𝕄) : sProp 𝕄 :=
  wp frame (wpE (defs₀ (F := F)) 𝒱₀ (c : Thread nD τ) none) Set.univ p Q

theorem wpc_ret (c : Dev nD) {α : Type} (a : α) (Q : α → sProp 𝕄) : Q a ⊢ wpc c (Prog.ret a) Q := by
  unfold wpc; rw [wp_ret]; exact fupd_intro

theorem wpc_bind (c : Dev nD) {α β : Type} (p : P F α) (k : α → P F β) (Q : β → sProp 𝕄) :
    wpc c (p >>= k) Q = wpc c p fun a => wpc c (k a) Q := wp_bind _ _ _ _ _ _

section Slices
variable (c : Dev nD) {s s' : Shape} {e : EltTy} (M : Memref sig .tc .vmem s e) (r : Rect s) (hr : ∀ a, r.stride a = 1)
  (hq : r.shape.Squeezes s')

/-- A load of the held slice reads what is held, the unit axis aside. -/
theorem wpc_load_sq (q : PosShare TreeShare) (X : s'.Idx → Elt F e) (hc : r.shape.ShapeCasts s')
    (hl : M.view.LoadsAt r.toLoadRect) (Q : (r.shape.Idx → Elt F e) → sProp 𝕄) :
    iprop(owns (c : Thread nD τ) ((M.slice r hr).squeeze s' hq) q X
        ∗ (∀ b, ⌜shapeCast s' b hc = X⌝ -∗ owns (c : Thread nD τ) ((M.slice r hr).squeeze s' hq) q X -∗ Q b))
      ⊢ wpc c (Prog.lift (.load M r.toLoadRect hl)) Q := by
  unfold owns wpc
  iintro ⟨⟨%f, %hf, H⟩, HQ⟩
  have hset : ((M.slice r hr).squeeze s' hq).view.set = (M.access r).set := View.set_reshape _ _
  rw [hset]
  iapply (wp_load_rect 𝒱₀ (c : Thread nD τ) none Set.univ (m := M) (r := r) (hl := hl) subset_rfl) $$ H
  iintro H
  iapply (wpc_ret c _ Q)
  ispecialize HQ $$ %((M.access r).read (Elt F) f) %(show shapeCast s' ((M.access r).read (Elt F) f) hc = X from hf)
  iapply HQ
  iexists f
  isplitr; · ipureintro; exact hf
  iexact H

/-- A store over the held slice leaves the payload there, the unit axis aside. -/
theorem wpc_store_sq (hc : r.shape.ShapeCasts s') (w : r.shape.Idx → Elt F e)
    (hx : (M.access r).Stores Finset.univ) (hm : Finset.univ = Finset.univ ∨ ∀ a, r.stride a = 1) (Q : PUnit → sProp 𝕄) :
    iprop((∃ X, owns (c : Thread nD τ) ((M.slice r hr).squeeze s' hq) fullShare X)
        ∗ (owns (c : Thread nD τ) ((M.slice r hr).squeeze s' hq) fullShare (shapeCast s' w hc) -∗ Q ⟨⟩))
      ⊢ wpc c (Prog.lift (.store M r w Finset.univ hx hm)) Q := by
  unfold owns wpc
  iintro ⟨⟨%X, %f, %hf, H⟩, HQ⟩
  have hset : ((M.slice r hr).squeeze s' hq).view.set = (M.access r).set := View.set_reshape _ _
  rw [hset]
  iapply (wp_store 𝒱₀ (c : Thread nD τ) none Set.univ (m := M) (r := r) (w := w) (Mk := Finset.univ) (hx := hx) (hm := hm)
    (S := (M.access r).set) (f := f) subset_rfl) $$ H
  iintro H
  iapply (wpc_ret c _ Q)
  iapply HQ
  iexists _
  isplitr
  rotate_left
  · iexact H
  · ipureintro
    show shapeCast s' ((M.access r).read (Elt F) ((M.access r).write (Elt F) f w Finset.univ)) hc = _
    rw [View.read_write_univ]

/-- A load of part of a memref held as one. -/
theorem wpc_load_part (q : PosShare TreeShare) (X : s.Idx → Elt F e)
    (hl : M.view.LoadsAt r.toLoadRect) (Q : (r.shape.Idx → Elt F e) → sProp 𝕄) :
    iprop(owns (c : Thread nD τ) M q X ∗ (owns (c : Thread nD τ) M q X -∗ Q (fun j => X (r.emb j))))
      ⊢ wpc c (Prog.lift (.load M r.toLoadRect hl)) Q := by
  unfold owns wpc
  iintro ⟨⟨%f, %hf, H⟩, HQ⟩
  iapply (wp_load_rect 𝒱₀ (c : Thread nD τ) none Set.univ (m := M) (r := r) (hl := hl) (M.view.set_slice_subset r)) $$ H
  iintro H
  iapply (wpc_ret c _ Q)
  rw [show (M.access r).read (Elt F) f = fun j => X (r.emb j) from by rw [← hf]; rfl]
  iapply HQ
  iexists f
  isplitr; · ipureintro; exact hf
  iexact H

end Slices

/-! ## The halves and the slots at hand -/

/-- Half `k` of the running sums with its unit axis dropped. -/
abbrev accM (k : Fin 2) : Memref sig .tc .vmem S64x512 .f32 :=
  (accB.slice (halfR k) (fun _ => rfl)).squeeze S64x512 squeezes_S1x64x512_S64x512

/-- Half `k` of the running sums holds `v`; half `k` of the sending buffer, at any contents. -/
def acc (c : Dev nD) (k : Fin 2) (v : FVec F S64x512 .f32) : sProp 𝕄 := owns (c : Thread nD τ) (accM k) fullShare v
def accAny (c : Dev nD) (k : Fin 2) : sProp 𝕄 := iprop(∃ v : FVec F S64x512 .f32, owns (c : Thread nD τ) (accM k) fullShare v)
def sndAny (c : Dev nD) (k : Fin 2) : sProp 𝕄 := iprop(∃ v : FVec F S64x512 .bf16, owns (c : Thread nD τ) (sndM k) fullShare v)

theorem wpc_ldAccAny (c : Dev nD) (k : Fin 2) (Q : Vec F S1x64x512 .f32 → sProp 𝕄) :
    iprop(accAny (F := F) c k ∗ (∀ b, accAny (F := F) c k -∗ Q b)) ⊢ wpc c (ldAcc k) Q := by
  unfold accAny
  iintro ⟨⟨%v, H⟩, HQ⟩
  iapply (wpc_load_sq c accB (halfR k) (fun _ => rfl) squeezes_S1x64x512_S64x512 fullShare v shapeCasts_S1x64x512_S64x512)
  isplitl [H]; · iexact H
  iintro %b %hb H
  iapply HQ
  iexists v; iexact H

theorem wpc_ldAcc (c : Dev nD) (k : Fin 2) (v : FVec F S64x512 .f32) (Q : Vec F S1x64x512 .f32 → sProp 𝕄) :
    iprop(acc c k v ∗ (∀ b, ⌜(shapeCast S64x512 b shapeCasts_S1x64x512_S64x512 : FVec F S64x512 .f32) = v⌝ -∗ acc c k v -∗ Q b))
      ⊢ wpc c (ldAcc k) Q :=
  wpc_load_sq c accB (halfR k) (fun _ => rfl) squeezes_S1x64x512_S64x512 fullShare v shapeCasts_S1x64x512_S64x512 _ Q

theorem wpc_ldSnd (c : Dev nD) (k : Fin 2) (Q : Vec F S1x64x512 .bf16 → sProp 𝕄) :
    iprop(sndAny (F := F) c k ∗ (∀ b, sndAny (F := F) c k -∗ Q b)) ⊢ wpc c (ldSnd k) Q := by
  unfold sndAny
  iintro ⟨⟨%v, H⟩, HQ⟩
  iapply (wpc_load_sq c sndB (halfR k) (fun _ => rfl) squeezes_S1x64x512_S64x512 fullShare v shapeCasts_S1x64x512_S64x512)
  isplitl [H]; · iexact H
  iintro %b %hb H
  iapply HQ
  iexists v; iexact H

theorem wpc_ldRcv (c : Dev nD) (s : Fin 30) (v : FVec F S64x512 .bf16) (Q : Vec F S1x64x512 .bf16 → sProp 𝕄) :
    iprop(owns (c : Thread nD τ) (rcvM s) fullShare v
        ∗ (∀ b, ⌜(shapeCast S64x512 b shapeCasts_S1x64x512_S64x512 : FVec F S64x512 .bf16) = v⌝
            -∗ owns (c : Thread nD τ) (rcvM s) fullShare v -∗ Q b))
      ⊢ wpc c (ldRcv s) Q :=
  wpc_load_sq c rcvB (slotR s) (fun _ => rfl) squeezes_S1x64x512_S64x512 fullShare v shapeCasts_S1x64x512_S64x512 _ Q

theorem wpc_stAcc (c : Dev nD) (k : Fin 2) (v : FVec F S64x512 .f32) (Q : PUnit → sProp 𝕄) :
    iprop(accAny (F := F) c k ∗ (acc c k v -∗ Q ⟨⟩)) ⊢ wpc c (stAcc k (putAcc v)) Q := by
  have h := wpc_store_sq (F := F) c accB (halfR k) (fun _ => rfl) squeezes_S1x64x512_S64x512 shapeCasts_S1x64x512_S64x512 (putAcc v)
    (View.stores_vmem_bits_univ h_S1x64x512 rfl) (.inl rfl) Q
  rw [show shapeCast S64x512 (putAcc v) shapeCasts_S1x64x512_S64x512 = v from shapeCast_shapeCast _ _ _] at h
  exact h

theorem wpc_stSnd (c : Dev nD) (k : Fin 2) (v : FVec F S64x512 .f32) (Q : PUnit → sProp 𝕄) :
    iprop(sndAny (F := F) c k ∗ (owns (c : Thread nD τ) (sndM k) fullShare (rnd v) -∗ Q ⟨⟩)) ⊢ wpc c (stSnd k (putSnd v)) Q := by
  have h := wpc_store_sq (F := F) c sndB (halfR k) (fun _ => rfl) squeezes_S1x64x512_S64x512 shapeCasts_S1x64x512_S64x512 (putSnd v)
    (View.stores_vmem h_S1x64x512 ((Memref.isWhole_whole cc0_scratch1).storeExact_slice rfl _ (packedSnd k)) (fun _ => rfl)) (.inl rfl) Q
  rw [show shapeCast S64x512 (putSnd v) shapeCasts_S1x64x512_S64x512 = rnd v from shapeCast_shapeCast _ _ _] at h
  exact h

end Cert.KernelIdeal.Mlp

end
-- ==== Proof.Steps.lean ====
/- One lemma per step of the exchange, for any slot and half, and the layer put together from them. -/
module

public import proofs.«01_k».proof.Proof.Views

@[expose] public section

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

/-! ## What every device knows -/

/-- Every protocol cell's invariant, that its round 0 is reached, and the levels. -/
def ctx : sProp 𝕄 :=
  iprop((bigSep Finset.univ fun ck : Dev nD × CI => iprop(cellInv ER (sched m ρ) (K ck) (kcell ck) ∗ reached ER (kcell ck) 0)) ∗ levs (F := F))

instance ctx_persistent : BI.Persistent (ctx m ρ K) := by unfold ctx; infer_instance

theorem ctx_cell (ck : Dev nD × CI) : ctx m ρ K ⊢ iprop(cellInv ER (sched m ρ) (K ck) (kcell ck) ∗ reached ER (kcell ck) 0) := by
  unfold ctx
  have h : (bigSep Finset.univ fun ck : Dev nD × CI => iprop(cellInv ER (sched m ρ) (K ck) (kcell ck) ∗ reached ER (kcell ck) 0))
      ⊢ iprop(cellInv ER (sched m ρ) (K ck) (kcell ck) ∗ reached ER (kcell ck) 0) := bigSep_elim (Finset.mem_univ ck)
  iintro ⟨H, -⟩
  iapply h $$ H
theorem ctx_inv (ck : Dev nD × CI) : ctx m ρ K ⊢ cellInv ER (sched m ρ) (K ck) (kcell ck) :=
  (ctx_cell m ρ K ck).trans (by iintro ⟨H, -⟩; iexact H)
theorem ctx_reached (ck : Dev nD × CI) : ctx m ρ K ⊢ reached ER (kcell ck) 0 :=
  (ctx_cell m ρ K ck).trans (by iintro ⟨-, H⟩; iexact H)
theorem ctx_wait {A : sProp 𝕄} (h : levs (F := F) ⊢ A) : ctx m ρ K ⊢ A := by
  unfold ctx
  iintro ⟨-, H⟩
  iapply h $$ H

/-! ## What a device holds for a slot: before it sends, while the transfers run, and after -/

/-- The rights on slot `s` from the launch. -/
def fresh (c : Dev nD) (s : Fin 30) : sProp 𝕄 :=
  iprop(dutyTok ER (sndC c s) 0 0 ∗ dutyTok ER (rcvC (pr s c) s) 0 0 ∗ atPos ER (sndC c s) 0 ∅ 0 ∗ atPos ER (rcvC c s) 0 ∅ 0
    ∗ cred (tallyAt (rcvC c s) () N))
/-- With the partner's landing slot, from the barrier. -/
def ready (c : Dev nD) (s : Fin 30) : sProp 𝕄 := iprop(fresh (F := F) c s ∗ land (F := F) (pr s c) s)
/-- While the transfers on slot `s` run. -/
def flight (c : Dev nD) (s : Fin 30) : sProp 𝕄 :=
  iprop(atPos ER (sndC c s) 0 ∅ 0 ∗ atPos ER (rcvC c s) 0 ∅ 0 ∗ cred (tallyAt (rcvC c s) () N) ∗ cred (tallyAt (sndC c s) () N))
/-- When both are done: the counters at zero, and the device's own landing slot. -/
def done (c : Dev nD) (s : Fin 30) : sProp 𝕄 := iprop((semVal (sndC c s) 0 ∗ semVal (rcvC c s) 0) ∗ land (F := F) c s)

/-- Slots `n` and later not yet sent, slots below `w` done. -/
def work (c : Dev nD) (n w : ℕ) : sProp 𝕄 :=
  iprop((bigSep ((Finset.univ : Finset (Fin 30)).filter fun s => n ≤ s.val) fun s => ready (F := F) c s)
    ∗ (bigSep ((Finset.univ : Finset (Fin 30)).filter fun s => s.val < w) fun s => done (F := F) c s)
    ∗ ∃ W, owes (c : Thread nD τ) (owedX c n) W)

theorem ready_peel (c : Dev nD) (s : Fin 30) :
    (bigSep ((Finset.univ : Finset (Fin 30)).filter fun t => s.val ≤ t.val) fun t => ready (F := F) c t)
      = iprop(ready (F := F) c s ∗ bigSep ((Finset.univ : Finset (Fin 30)).filter fun t => s.val + 1 ≤ t.val) fun t => ready (F := F) c t) := by
  rw [filter_le_insert s]; exact bigSep_insert (by simp)

theorem done_push (c : Dev nD) (s : Fin 30) :
    (bigSep ((Finset.univ : Finset (Fin 30)).filter fun t => t.val < s.val + 1) fun t => done (F := F) c t)
      = iprop(done (F := F) c s ∗ bigSep ((Finset.univ : Finset (Fin 30)).filter fun t => t.val < s.val) fun t => done (F := F) c t) := by
  rw [show (Finset.univ : Finset (Fin 30)).filter (fun t => t.val < s.val + 1) = insert s (Finset.univ.filter fun t => t.val < s.val) from by
    ext j; simp only [Finset.mem_filter, Finset.mem_univ, true_and, Finset.mem_insert, Fin.ext_iff]; omega]
  exact bigSep_insert (by simp)

/-! ## The transfer -/

/-- The transfer on slot `s` to device `d`, `c`'s partner on it. -/
theorem wp_send_slot (c d : Dev nD) (s : Fin 30) (hd : d = pr s c) (k : Fin 2) (hk : kOf s = k) (v : FVec F S64x512 .bf16) (hv : v = sent m ρ c s)
    {hsc : (rcvM s : Memref sig (Dev.tc d : Thread nD τ).2.kind .vmem S64x512 .bf16).view.ref.isScScratch = false}
    {hsrc : (sndM k).view.WordExact} {hdst : (rcvM s).view.WordExact}
    {hsem : DmaTarget.Typed .vmem (.dma (rSem s)) (.remote (Dev.tc d : Thread nD τ) (rcvM s : Memref sig .tc .vmem S64x512 .bf16) (.dma (sSem s)) hsc)}
    (n : ℕ) (hn : n = s.val) (W : Waits sig Unit) (Q : PUnit → sProp 𝕄) :
    iprop(ctx m ρ K ∗ owns (c : Thread nD τ) (sndM k) fullShare v ∗ land (F := F) (pr s c) s ∗ owes (c : Thread nD τ) (owedX c n) W
        ∗ dutyTok ER (sndC c s) 0 0 ∗ dutyTok ER (rcvC (pr s c) s) 0 0
        ∗ ((cred (tallyAt (sndC c s) () N) ∗ owes (c : Thread nD τ) (owedX c (n + 1)) W) -∗ Q ⟨⟩))
      ⊢ wpc c (Prog.lift (.enqueueDma (sndM k) (.remote (Dev.tc d : Thread nD τ) (rcvM s) (.dma (sSem s)) hsc) (.dma (rSem s)) hsrc hdst hsem)) Q := by
  subst hd; subst hk; subst hn
  unfold land owns wpc
  iintro ⟨#Hctx, ⟨%f, %hf, Hs⟩, ⟨%X, %g, %hg, Hd⟩, HO, Ht, Ht', HQ⟩
  iapply (Rounds.wp_send_pointsTo 𝒱₀ ER (sched m ρ) (c : Thread nD τ) none (κ₁ := K (c, .inr (.inl s))) (κ₂ := K (pr s c, .inr (.inr s)))
    (c' := (pr s c : Thread nD τ)) (src := sndM (kOf s)) (dst := rcvM s) (sS := .dma (sSem s)) (sem := .dma (rSem s))
    (r₁ := 0) (r₂ := 0) (d₁ := 0) (d₂ := 0) (fs := f) (fd := g) (q := fullShare)
    (by rw [duties_snd]; exact Finset.mem_singleton_self _) (by rw [duties_rcv]; exact Finset.mem_singleton_self _)
    () () N (credit_rcv s) (amount_snd m ρ c s 0) (amount_rcv m ρ (pr s c) s 0) (owedX c (s.val + 1)) (owedX_succ c s) (W := W)
    (by rw [payload_snd]; unfold sndPay; rw [← hv, ← hf]; exact owns_intro _ _ _ _)
    (by
      rw [payload_rcv]; unfold rcvPay; rw [pr_pr, ← hv, ← hf]
      refine (owns_intro (pr s c : Thread nD τ) (rcvM s) fullShare _).trans (Entails.of_eq ?_)
      rw [View.read_write_univ])) $$ [Hs Hd HO Ht Ht']
  · isplitr; · iapply (ctx_inv m ρ K (c, .inr (.inl s))) $$ Hctx
    isplitr; · iapply (ctx_inv m ρ K (pr s c, .inr (.inr s))) $$ Hctx
    isplitl [Hs]; · iexact Hs
    isplitl [Hd]; · iexact Hd
    isplitl [HO]; · iexact HO
    isplitl [Ht]; · iexact Ht
    isplitr; · iapply (ctx_reached m ρ K (c, .inr (.inl s))) $$ Hctx
    isplitl [Ht']; · iexact Ht'
    iapply (ctx_reached m ρ K (pr s c, .inr (.inr s))) $$ Hctx
  iintro H
  iapply (wpc_ret c _ Q)
  iapply HQ
  iexact H

/-- Sending half `k` on slot `s`. -/
theorem wpc_sendP (c : Dev nD) (s : Fin 30) (k : Fin 2) (hk : kOf s = k) (v : FVec F S64x512 .bf16) (hv : v = sent m ρ c s)
    (n w : ℕ) (hn : n = s.val) (Q : PUnit → sProp 𝕄) :
    iprop(ctx m ρ K ∗ work (F := F) c n w ∗ owns (c : Thread nD τ) (sndM k) fullShare v
        ∗ ((work (F := F) c (n + 1) w ∗ flight (F := F) c s) -∗ Q ⟨⟩)) ⊢ wpc c (sendP c s k) Q := by
  unfold work
  rw [show (bigSep ((Finset.univ : Finset (Fin 30)).filter fun t => n ≤ t.val) fun t => ready (F := F) c t) = _ from by rw [hn, ready_peel c s],
    ← hn]
  unfold ready fresh flight
  iintro ⟨#Hctx, ⟨⟨⟨⟨Ht, Ht', Ha, Ha', Hcr⟩, Hl⟩, Hrest⟩, Hdone, ⟨%W, HO⟩⟩, Hs, HQ⟩
  iapply (wp_send_slot m ρ K c (dstDev c s) s (dstDev_eq c s) k hk v hv n hn W Q)
  isplitr; · iexact Hctx
  isplitl [Hs]; · iexact Hs
  isplitl [Hl]; · iexact Hl
  isplitl [HO]; · iexact HO
  isplitl [Ht]; · iexact Ht
  isplitl [Ht']; · iexact Ht'
  iintro ⟨Hcs, HO⟩
  iapply HQ
  isplitl [Hrest Hdone HO]
  · isplitl [Hrest]; · iexact Hrest
    isplitl [Hdone]; · iexact Hdone
    iexists W; iexact HO
  isplitl [Ha]; · iexact Ha
  isplitl [Ha']; · iexact Ha'
  isplitl [Hcr]; · iexact Hcr
  iexact Hcs

/-- Recording a sum, rounding it and sending it. -/
theorem wpc_putP (c : Dev nD) (s : Fin 30) (k : Fin 2) (hk : kOf s = k) (v : FVec F S64x512 .f32) (hv : rnd v = sent m ρ c s)
    (n w : ℕ) (hn : n = s.val) (Q : PUnit → sProp 𝕄) :
    iprop(ctx m ρ K ∗ work (F := F) c n w ∗ accAny (F := F) c k ∗ sndAny (F := F) c k
        ∗ ((work (F := F) c (n + 1) w ∗ acc c k v ∗ flight (F := F) c s) -∗ Q ⟨⟩)) ⊢ wpc c (putP c s k v) Q := by
  unfold putP
  iintro ⟨#Hctx, Hw, Ha, Hs, HQ⟩
  rw [wpc_bind]
  iapply (wpc_ldAccAny c k)
  isplitl [Ha]; · iexact Ha
  iintro %b Ha
  rw [wpc_bind]
  iapply (wpc_stAcc c k v)
  isplitl [Ha]; · iexact Ha
  iintro Ha
  rw [wpc_bind]
  iapply (wpc_ldSnd c k)
  isplitl [Hs]; · iexact Hs
  iintro %b' Hs
  rw [wpc_bind]
  iapply (wpc_stSnd c k v)
  isplitl [Hs]; · iexact Hs
  iintro Hs
  iapply (wpc_sendP m ρ K c s k hk (rnd v) hv n w hn Q)
  isplitr; · iexact Hctx
  isplitl [Hw]; · iexact Hw
  isplitl [Hs]; · iexact Hs
  iintro ⟨Hw, Hf⟩
  iapply HQ
  isplitl [Hw]; · iexact Hw
  isplitl [Ha]; · iexact Ha
  iexact Hf

/-! ## The waits -/

theorem waitSP_eq (c : Dev nD) (s : Fin 30) (k : Fin 2) {h : (rcvM s).view.WordExact} {h' : (sndM k).view.WordExact} (R : PUnit → sProp 𝕄) :
    wpE defs₀ 𝒱₀ (c : Thread nD τ) none Set.univ (.waitDma2 (sSem s) (rcvM s) (sndM k) h h') R
      = waitSpec (c : Thread nD τ) Set.univ (.dma (sSem s)) N R := by
  rw [← credit_snd k]; exact wpE_waitDma2_eq 𝒱₀ (c : Thread nD τ) none Set.univ R
theorem waitRP_eq (c : Dev nD) (s : Fin 30) (k : Fin 2) {h : (sndM k).view.WordExact} {h' : (rcvM s).view.WordExact} (R : PUnit → sProp 𝕄) :
    wpE defs₀ 𝒱₀ (c : Thread nD τ) none Set.univ (.waitDma2 (rSem s) (sndM k) (rcvM s) h h') R
      = waitSpec (c : Thread nD τ) Set.univ (.dma (rSem s)) N R := by
  rw [← credit_rcv s]; exact wpE_waitDma2_eq 𝒱₀ (c : Thread nD τ) none Set.univ R

/-- The wait for slot `s`'s departure returns the sending half. -/
theorem wpc_waitSP (c : Dev nD) (s : Fin 30) (k : Fin 2) (n : ℕ) (W : Waits sig Unit) (Q : PUnit → sProp 𝕄) :
    iprop(ctx m ρ K ∗ cred (tallyAt (sndC c s) () N) ∗ owes (c : Thread nD τ) (owedX c n) W ∗ atPos ER (sndC c s) 0 ∅ 0
        ∗ ((owes (c : Thread nD τ) (owedX c n) (insert (SemLoc.dma (sSem s), ()) W) ∗ semVal (sndC c s) 0 ∗ sndPay m ρ c s) -∗ Q ⟨⟩))
      ⊢ wpc c (waitSP s k) Q := by
  unfold wpc
  iintro ⟨#Hctx, Hc, HO, Ha, HQ⟩
  iapply (Rounds.wp_wait_rest_token 𝒱₀ ER (sched m ρ) (c : Thread nD τ) none (κ := K (c, .inr (.inl s)))
      (waitSP_eq c s k) (Set.mem_univ _) () (O := owedX c n) (W := W) (R := 0) (m := 0) (T := ∅)
      ((Nat.zero_add N).trans (expect_snd m ρ c s).symm)) $$ [Hc HO Ha]
  · isplitr; · iapply (ctx_inv m ρ K (c, .inr (.inl s))) $$ Hctx
    isplitl [Hc]; · iexact Hc
    isplitl [HO]; · iexact HO
    isplitr
    · iapply (ctx_wait m ρ K (mayWait_snd (F := F) c s n)) $$ Hctx
    iexact Ha
  iintro ⟨HO, Ha, -, Hp⟩
  ihave Hp := (Entails.of_eq (rest_snd m ρ c s)) $$ Hp
  ihave Hi := (ctx_inv m ρ K (c, .inr (.inl s))) $$ Hctx
  imod (Rounds.cell_close ER (sched m ρ) (Set.mem_univ (K (c, .inr (.inl s)))) (fun h => h) (R := 0 + 1) (duties_later m ρ (sndC c s))) $$ [Hi Ha] with Hz
  · isplitl [Hi] <;> iassumption
  iapply (wpc_ret c _ Q)
  iapply HQ
  isplitl [HO]; · iexact HO
  isplitl [Hz]; · iexact Hz
  iexact Hp

/-- The wait for slot `s`'s arrival returns the landing slot with what the partner sent. -/
theorem wpc_waitRP (c : Dev nD) (s : Fin 30) (k : Fin 2) (n : ℕ) (hn : s.val < n) (W : Waits sig Unit) (Q : PUnit → sProp 𝕄) :
    iprop(ctx m ρ K ∗ cred (tallyAt (rcvC c s) () N) ∗ owes (c : Thread nD τ) (owedX c n) W ∗ atPos ER (rcvC c s) 0 ∅ 0
        ∗ ((owes (c : Thread nD τ) (owedX c n) (insert (SemLoc.dma (rSem s), ()) W) ∗ semVal (rcvC c s) 0 ∗ rcvPay m ρ c s) -∗ Q ⟨⟩))
      ⊢ wpc c (waitRP s k) Q := by
  unfold wpc
  iintro ⟨#Hctx, Hc, HO, Ha, HQ⟩
  iapply (Rounds.wp_wait_rest_token 𝒱₀ ER (sched m ρ) (c : Thread nD τ) none (κ := K (c, .inr (.inr s)))
      (waitRP_eq c s k) (Set.mem_univ _) () (O := owedX c n) (W := W) (R := 0) (m := 0) (T := ∅)
      ((Nat.zero_add N).trans (expect_rcv m ρ c s).symm)) $$ [Hc HO Ha]
  · isplitr; · iapply (ctx_inv m ρ K (c, .inr (.inr s))) $$ Hctx
    isplitl [Hc]; · iexact Hc
    isplitl [HO]; · iexact HO
    isplitr
    · iapply (ctx_wait m ρ K (mayWait_rcv (F := F) c s n hn)) $$ Hctx
    iexact Ha
  iintro ⟨HO, Ha, -, Hp⟩
  ihave Hp := (Entails.of_eq (rest_rcv m ρ c s)) $$ Hp
  ihave Hi := (ctx_inv m ρ K (c, .inr (.inr s))) $$ Hctx
  imod (Rounds.cell_close ER (sched m ρ) (Set.mem_univ (K (c, .inr (.inr s)))) (fun h => h) (R := 0 + 1) (duties_later m ρ (rcvC c s))) $$ [Hi Ha] with Hz
  · isplitl [Hi] <;> iassumption
  iapply (wpc_ret c _ Q)
  iapply HQ
  isplitl [HO]; · iexact HO
  isplitl [Hz]; · iexact Hz
  iexact Hp

/-- Collecting slot `s` of half `k`. -/
theorem wpc_takeP (c : Dev nD) (s : Fin 30) (k : Fin 2) (hk : kOf s = k) (v : FVec F S64x512 .f32)
    (n w : ℕ) (hw : w = s.val) (hn : s.val < n) (Q : FVec F S64x512 .f32 → sProp 𝕄) :
    iprop(ctx m ρ K ∗ work (F := F) c n w ∗ acc c k v ∗ flight (F := F) c s
        ∗ ((work (F := F) c n (w + 1) ∗ accAny (F := F) c k ∗ sndAny (F := F) c k) -∗ Q (addIn v (sent m ρ (pr s c) s))))
      ⊢ wpc c (takeP s k) Q := by
  subst hw; subst hk
  unfold takeP work flight
  rw [done_push c s]
  iintro ⟨#Hctx, ⟨Hr, Hd, ⟨%W, HO⟩⟩, Hacc, ⟨Ha, Ha', Hc, Hcs⟩, HQ⟩
  rw [wpc_bind]
  iapply (wpc_waitSP m ρ K c s (kOf s) n W)
  isplitr; · iexact Hctx
  isplitl [Hcs]; · iexact Hcs
  isplitl [HO]; · iexact HO
  isplitl [Ha]; · iexact Ha
  iintro ⟨HO, Hz, Hsnd⟩
  rw [wpc_bind]
  iapply (wpc_waitRP m ρ K c s (kOf s) n hn _)
  isplitr; · iexact Hctx
  isplitl [Hc]; · iexact Hc
  isplitl [HO]; · iexact HO
  isplitl [Ha']; · iexact Ha'
  iintro ⟨HO, Hz', Hrcv⟩
  rw [wpc_bind]
  iapply (wpc_ldAcc c (kOf s) v)
  isplitl [Hacc]; · iexact Hacc
  iintro %a %ha Hacc
  rw [wpc_bind]
  iapply (wpc_ldRcv c s (sent m ρ (pr s c) s))
  isplitl [Hrcv]; · unfold rcvPay; iexact Hrcv
  iintro %b %hb Hrcv
  iapply (wpc_ret c _ Q)
  rw [show addLd a b = addIn v (sent m ρ (pr s c) s) from by unfold addLd; rw [ha, hb]]
  iapply HQ
  isplitl [Hr Hd HO Hz Hz' Hrcv]
  · isplitl [Hr]; · iexact Hr
    isplitl [Hd Hz Hz' Hrcv]
    · isplitl [Hz Hz' Hrcv]
      · unfold done land
        isplitl [Hz Hz']
        · isplitl [Hz] <;> iassumption
        iexists _; iexact Hrcv
      iexact Hd
    iexists _; iexact HO
  isplitl [Hacc]
  · unfold accAny acc; iexists _; iexact Hacc
  unfold sndAny sndPay; iexists _; iexact Hsnd

/-! ## The rounds of a layer -/

/-- Half `k` of layer `l` is in round `r`: its running sum recorded and sent. -/
def half (c : Dev nD) (l : Fin 3) (k : Fin 2) (r : Fin 5) : sProp 𝕄 :=
  iprop(acc c k (part m ρ l k r.val c) ∗ flight (F := F) c (slot l r k))

theorem take_value (c : Dev nD) (l : Fin 3) (r : Fin 5) (k : Fin 2) :
    addIn (part m ρ l k r.val c) (sent m ρ (pr (slot l r k) c) (slot l r k)) = part m ρ l k (r.val + 1) c := by
  rw [part_succ, sent_slot, pr_slot]

/-- The weights of layer `l`, held in the staging buffers. -/
def hasWin (c : Dev nD) (l : Fin 3) : sProp 𝕄 := owns (c : Thread nD τ) (winB l) fullShare (stgWin m ρ l c)
def hasWout (c : Dev nD) (l : Fin 3) : sProp 𝕄 := owns (c : Thread nD τ) (woutB l) fullShare (stgWout m ρ l c)

theorem wpc_startP (c : Dev nD) (l : Fin 3) (k : Fin 2) (n w : ℕ) (hn : n = (slot l 0 k).val) (Q : PUnit → sProp 𝕄) :
    iprop(ctx m ρ K ∗ work (F := F) c n w ∗ accAny (F := F) c k ∗ sndAny (F := F) c k ∗ hasWin m ρ c l
        ∗ ((work (F := F) c (n + 1) w ∗ half m ρ c l k 0 ∗ hasWin m ρ c l) -∗ Q ⟨⟩))
      ⊢ wpc c (startP c l (acts m ρ l.val c) k) Q := by
  unfold startP hasWin half
  iintro ⟨#Hctx, Hw, Ha, Hs, Hwin, HQ⟩
  rw [wpc_bind]
  iapply (wpc_load_part c (winB l) (winR k) fullShare (stgWin m ρ l c))
  isplitl [Hwin]; · iexact Hwin
  iintro Hwin
  iapply (wpc_putP m ρ K c (slot l 0 k) k (kOf_slot l 0 k) _ (by rw [sent_slot]; rfl) n w hn Q)
  isplitr; · iexact Hctx
  isplitl [Hw]; · iexact Hw
  isplitl [Ha]; · iexact Ha
  isplitl [Hs]; · iexact Hs
  iintro ⟨Hw, Ha, Hf⟩
  iapply HQ
  isplitl [Hw]; · iexact Hw
  isplitl [Ha Hf]
  · isplitl [Ha]; · iexact Ha
    iexact Hf
  iexact Hwin

theorem wpc_midP (c : Dev nD) (l : Fin 3) (r r' : Fin 5) (hr : r'.val = r.val + 1) (k : Fin 2) (n w : ℕ) (hn : n = (slot l r' k).val)
    (hw : w = (slot l r k).val) (Q : PUnit → sProp 𝕄) :
    iprop(ctx m ρ K ∗ work (F := F) c n w ∗ half m ρ c l k r ∗ ((work (F := F) c (n + 1) (w + 1) ∗ half m ρ c l k r') -∗ Q ⟨⟩))
      ⊢ wpc c (midP c l r r' k) Q := by
  unfold midP half
  iintro ⟨#Hctx, Hw, ⟨Ha, Hf⟩, HQ⟩
  rw [wpc_bind]
  iapply (wpc_takeP m ρ K c (slot l r k) k (kOf_slot l r k) (part m ρ l k r.val c) n w hw (by rw [hn]; simp only [slot]; omega))
  isplitr; · iexact Hctx
  isplitl [Hw]; · iexact Hw
  isplitl [Ha]; · iexact Ha
  isplitl [Hf]; · iexact Hf
  iintro ⟨Hw, Ha, Hs⟩
  rw [take_value, ← hr]
  iapply (wpc_putP m ρ K c (slot l r' k) k (kOf_slot l r' k) _ (by rw [sent_slot]) n (w + 1) hn Q)
  isplitr; · iexact Hctx
  isplitl [Hw]; · iexact Hw
  isplitl [Ha]; · iexact Ha
  isplitl [Hs]; · iexact Hs
  iintro H
  iapply HQ
  iexact H

theorem wpc_ret_eq {α : Type} (c : Dev nD) (a b : α) (Q : α → sProp 𝕄) (h : a = b) : Q b ⊢ wpc c (Prog.ret a) Q := h ▸ wpc_ret c a Q

theorem wpc_lastP (c : Dev nD) (l : Fin 3) (o : FVec F S64x512 .f32) (k : Fin 2) (n w : ℕ) (hn : (slot l 4 k).val < n)
    (hw : w = (slot l 4 k).val) (Q : FVec F S64x512 .f32 → sProp 𝕄) :
    iprop(ctx m ρ K ∗ work (F := F) c n w ∗ half m ρ c l k 4 ∗ hasWout m ρ c l
        ∗ ((work (F := F) c n (w + 1) ∗ accAny (F := F) c k ∗ sndAny (F := F) c k ∗ hasWout m ρ c l)
            -∗ Q (outAdd o (part m ρ l k 5 c) (woutV m ρ l k c))))
      ⊢ wpc c (lastP l o k) Q := by
  unfold lastP half hasWout
  iintro ⟨#Hctx, Hw, ⟨Ha, Hf⟩, Hwout, HQ⟩
  rw [wpc_bind]
  iapply (wpc_takeP m ρ K c (slot l 4 k) k (kOf_slot l 4 k) (part m ρ l k (4 : Fin 5).val c) n w hw hn)
  isplitr; · iexact Hctx
  isplitl [Hw]; · iexact Hw
  isplitl [Ha]; · iexact Ha
  isplitl [Hf]; · iexact Hf
  iintro ⟨Hw, Ha, Hs⟩
  rw [take_value, wpc_bind]
  iapply (wpc_load_part c (woutB l) (woutR k) fullShare (stgWout m ρ l c))
  isplitl [Hwout]; · iexact Hwout
  iintro Hwout
  iapply (wpc_ret_eq c _ (outAdd o (part m ρ l k 5 c) (woutV m ρ l k c)) Q (by rfl))
  iapply HQ
  isplitl [Hw]; · iexact Hw
  isplitl [Ha]; · iexact Ha
  isplitl [Hs]; · iexact Hs
  iexact Hwout

/-- Both halves free: what a layer starts from and ends in. -/
def halves (c : Dev nD) : sProp 𝕄 := iprop((accAny (F := F) c 0 ∗ sndAny (F := F) c 0) ∗ (accAny (F := F) c 1 ∗ sndAny (F := F) c 1))

/-- One layer, from the activations entering it to those leaving it. -/
theorem wpc_layerP (c : Dev nD) (l : Fin 3) (Q : FVec F S64x512 .f32 → sProp 𝕄) :
    iprop(ctx m ρ K ∗ work (F := F) c (10 * l.val) (10 * l.val) ∗ halves (F := F) c ∗ hasWin m ρ c l ∗ hasWout m ρ c l
        ∗ ((work (F := F) c (10 * (l.val + 1)) (10 * (l.val + 1)) ∗ halves (F := F) c ∗ hasWin m ρ c l ∗ hasWout m ρ c l)
            -∗ Q (acts m ρ (l.val + 1) c)))
      ⊢ wpc c (layerP c l (acts m ρ l.val c)) Q := by
  unfold layerP halves
  rw [show 10 * (l.val + 1) = 10 * l.val + 10 from Nat.mul_succ 10 l.val]
  iintro ⟨#Hctx, Hw, ⟨⟨Ha, Hs⟩, ⟨Ha', Hs'⟩⟩, Hwin, Hwout, HQ⟩
  rw [wpc_bind]
  iapply (wpc_startP m ρ K c l 0 (10 * l.val + 0) (10 * l.val + 0) (by simp only [slot]; omega))
  isplitr; · iexact Hctx
  isplitl [Hw]; · iexact Hw
  isplitl [Ha]; · iexact Ha
  isplitl [Hs]; · iexact Hs
  isplitl [Hwin]; · iexact Hwin
  iintro ⟨Hw, H0, Hwin⟩
  rw [wpc_bind]
  iapply (wpc_startP m ρ K c l 1 (10 * l.val + 1) (10 * l.val + 0) (by simp only [slot]; omega))
  isplitr; · iexact Hctx
  isplitl [Hw]; · iexact Hw
  isplitl [Ha']; · iexact Ha'
  isplitl [Hs']; · iexact Hs'
  isplitl [Hwin]; · iexact Hwin
  iintro ⟨Hw, H1, Hwin⟩
  rw [wpc_bind]
  iapply (wpc_midP m ρ K c l 0 1 rfl 0 (10 * l.val + 2) (10 * l.val + 0) (by simp only [slot]; omega) (by simp only [slot]; omega))
  isplitr; · iexact Hctx
  isplitl [Hw]; · iexact Hw
  isplitl [H0]; · iexact H0
  iintro ⟨Hw, H0⟩
  rw [wpc_bind]
  iapply (wpc_midP m ρ K c l 0 1 rfl 1 (10 * l.val + 3) (10 * l.val + 1) (by simp only [slot]; omega) (by simp only [slot]; omega))
  isplitr; · iexact Hctx
  isplitl [Hw]; · iexact Hw
  isplitl [H1]; · iexact H1
  iintro ⟨Hw, H1⟩
  rw [wpc_bind]
  iapply (wpc_midP m ρ K c l 1 2 rfl 0 (10 * l.val + 4) (10 * l.val + 2) (by simp only [slot]; omega) (by simp only [slot]; omega))
  isplitr; · iexact Hctx
  isplitl [Hw]; · iexact Hw
  isplitl [H0]; · iexact H0
  iintro ⟨Hw, H0⟩
  rw [wpc_bind]
  iapply (wpc_midP m ρ K c l 1 2 rfl 1 (10 * l.val + 5) (10 * l.val + 3) (by simp only [slot]; omega) (by simp only [slot]; omega))
  isplitr; · iexact Hctx
  isplitl [Hw]; · iexact Hw
  isplitl [H1]; · iexact H1
  iintro ⟨Hw, H1⟩
  rw [wpc_bind]
  iapply (wpc_midP m ρ K c l 2 3 rfl 0 (10 * l.val + 6) (10 * l.val + 4) (by simp only [slot]; omega) (by simp only [slot]; omega))
  isplitr; · iexact Hctx
  isplitl [Hw]; · iexact Hw
  isplitl [H0]; · iexact H0
  iintro ⟨Hw, H0⟩
  rw [wpc_bind]
  iapply (wpc_midP m ρ K c l 2 3 rfl 1 (10 * l.val + 7) (10 * l.val + 5) (by simp only [slot]; omega) (by simp only [slot]; omega))
  isplitr; · iexact Hctx
  isplitl [Hw]; · iexact Hw
  isplitl [H1]; · iexact H1
  iintro ⟨Hw, H1⟩
  rw [wpc_bind]
  iapply (wpc_midP m ρ K c l 3 4 rfl 0 (10 * l.val + 8) (10 * l.val + 6) (by simp only [slot]; omega) (by simp only [slot]; omega))
  isplitr; · iexact Hctx
  isplitl [Hw]; · iexact Hw
  isplitl [H0]; · iexact H0
  iintro ⟨Hw, H0⟩
  rw [wpc_bind]
  iapply (wpc_midP m ρ K c l 3 4 rfl 1 (10 * l.val + 9) (10 * l.val + 7) (by simp only [slot]; omega) (by simp only [slot]; omega))
  isplitr; · iexact Hctx
  isplitl [Hw]; · iexact Hw
  isplitl [H1]; · iexact H1
  iintro ⟨Hw, H1⟩
  rw [wpc_bind]
  iapply (wpc_lastP m ρ K c l zeros 0 (10 * l.val + 10) (10 * l.val + 8) (by simp only [slot]; omega) (by simp only [slot]; omega))
  isplitr; · iexact Hctx
  isplitl [Hw]; · iexact Hw
  isplitl [H0]; · iexact H0
  isplitl [Hwout]; · iexact Hwout
  iintro ⟨Hw, Ha, Hs, Hwout⟩
  iapply (wpc_lastP m ρ K c l _ 1 (10 * l.val + 10) (10 * l.val + 9) (by simp only [slot]; omega) (by simp only [slot]; omega) Q)
  isplitr; · iexact Hctx
  isplitl [Hw]; · iexact Hw
  isplitl [H1]; · iexact H1
  isplitl [Hwout]; · iexact Hwout
  iintro ⟨Hw, Ha', Hs', Hwout⟩
  rw [show (outAdd (outAdd zeros (part m ρ l 0 5 c) (woutV m ρ l 0 c)) (part m ρ l 1 5 c) (woutV m ρ l 1 c))
    = acts m ρ (l.val + 1) c from by rw [acts_succ]; rfl]
  iapply HQ
  isplitl [Hw]; · iexact Hw
  isplitl [Ha Hs Ha' Hs']
  · isplitl [Ha Hs]
    · isplitl [Ha] <;> iassumption
    · isplitl [Ha'] <;> iassumption
  isplitl [Hwin] <;> iassumption

end Cert.KernelIdeal.Mlp

end
-- ==== Proof.Body.lean ====
/- The whole body on one device: the hand-shake, the three layers, the result stored. -/
module

public import proofs.«01_k».proof.Proof.Steps

@[expose] public section

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

/-! ## The hand-shake -/

/-- A device's own landing slots that the partner on mask `b` sends to. -/
def landsOn (c : Dev nD) (b : Fin 5) : sProp 𝕄 := bigSep (Finset.univ.filter fun s => flip s = b) fun s => land (F := F) c s

theorem landsOn_eq (c : Dev nD) (b : Fin 5) : landsOn (F := F) c b = barPay (par b c) b := by
  unfold landsOn barPay
  refine bigSep_congr fun s hs => ?_
  rw [show pr s (par b c) = c from by unfold pr; rw [(Finset.mem_filter.mp hs).2, par_par]]

theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- The landing slots, grouped by the partner that sends to them. -/
theorem lands_group (c : Dev nD) : (bigSep Finset.univ fun s : Fin 30 => land (F := F) c s) = bigSep Finset.univ fun b => landsOn (F := F) c b := by
  rw [BI.bigSep_fiberwise Finset.univ flip, show Finset.univ.image flip = Finset.univ from by decide]
  rfl

/-- The signal to the partner on mask `b`: it hands over the landing slots the partner sends to. -/
theorem wpc_signal (c d : Dev nD) (b : Fin 5) (hd : d = par b c) (n : ℕ) (hn : n = b.val) (W : Waits sig Unit) (Q : PUnit → sProp 𝕄) :
    iprop(ctx m ρ K ∗ owes (c : Thread nD τ) (owedX c 0 + owedS c n) W ∗ dutyTok ER (barC (par b c)) 0 b ∗ landsOn (F := F) c b
        ∗ (owes (c : Thread nD τ) (owedX c 0 + owedS c (n + 1)) W -∗ Q ⟨⟩))
      ⊢ wpc c (semSignalWord d barSem 1#32) Q := by
  subst hd; subst hn
  unfold wpc semSignalWord
  iintro ⟨#Hctx, HO, Ht, Hl, HQ⟩
  iapply (Rounds.wp_signal 𝒱₀ ER (sched m ρ) (c : Thread nD τ) none (dst := (par b c : Thread nD τ)) (sem := barSem) (r := 0) (κ := K (par b c, .inl ()))
      (d := b) (by rw [duties_bar]; exact Finset.mem_univ _) ((amount_bar m ρ (par b c) b).trans (by decide)) () (O₀ := owedX c 0 + owedS c b.val) (owedX c 0 + owedS c (b.val + 1))
      (by rw [owedS_succ c b, ← add_assoc]; rfl) (W := W))
    $$ [HO Ht Hl]
  · isplitr; · iapply (ctx_inv m ρ K (par b c, .inl ())) $$ Hctx
    isplitl [HO]; · iexact HO
    isplitl [Ht]; · iexact Ht
    isplitl [Hl]
    · rw [payload_bar, ← landsOn_eq]; iexact Hl
    iapply (ctx_reached m ρ K (par b c, .inl ())) $$ Hctx
  iintro HO
  iapply (wpc_ret c _ Q)
  iapply HQ
  iexact HO

theorem waitBar_eq (c : Dev nD) (R : PUnit → sProp 𝕄) :
    wpE defs₀ 𝒱₀ (c : Thread nD τ) none Set.univ (.semWait barSem (5#32 : BitVec 32).toInt) R
      = waitSpec (c : Thread nD τ) Set.univ (.reg barSem) 5 R := wpE_semWait_eq 𝒱₀ (c : Thread nD τ) none Set.univ R

/-- The wait for the five partners: each has handed over the slots that `c` sends to. -/
theorem wpc_waitBar (c : Dev nD) (W : Waits sig Unit) (Q : PUnit → sProp 𝕄) :
    iprop(ctx m ρ K ∗ cred (tallyAt (barC c) () 5) ∗ owes (c : Thread nD τ) (owedX c 0) W ∗ atPos ER (barC c) 0 ∅ 0
        ∗ ((owes (c : Thread nD τ) (owedX c 0) (insert (SemLoc.reg barSem, ()) W) ∗ semVal (barC c) 0
            ∗ bigSep Finset.univ fun s : Fin 30 => land (F := F) (pr s c) s) -∗ Q ⟨⟩))
      ⊢ wpc c (semWaitWord barSem 5#32) Q := by
  unfold wpc semWaitWord
  iintro ⟨#Hctx, Hc, HO, Ha, HQ⟩
  iapply (Rounds.wp_wait_rest_token 𝒱₀ ER (sched m ρ) (c : Thread nD τ) none (κ := K (c, .inl ()))
      (waitBar_eq c) (Set.mem_univ _) () (O := owedX c 0) (W := W) (R := 0) (m := 0) (T := ∅)
      ((Nat.zero_add 5).trans (expect_bar m ρ c).symm)) $$ [Hc HO Ha]
  · isplitr; · iapply (ctx_inv m ρ K (c, .inl ())) $$ Hctx
    isplitl [Hc]; · iexact Hc
    isplitl [HO]; · iexact HO
    isplitr
    · iapply (ctx_wait m ρ K (mayWait_bar (F := F) c)) $$ Hctx
    iexact Ha
  iintro ⟨HO, Ha, -, Hp⟩
  ihave Hp := (Entails.of_eq (rest_bar m ρ c)) $$ Hp
  ihave Hi := (ctx_inv m ρ K (c, .inl ())) $$ Hctx
  imod (Rounds.cell_close ER (sched m ρ) (Set.mem_univ (K (c, .inl ()))) (fun h => h) (R := 0 + 1) (duties_later m ρ (barC c))) $$ [Hi Ha] with Hz
  · isplitl [Hi] <;> iassumption
  iapply (wpc_ret c _ Q)
  iapply HQ
  isplitl [HO]; · iexact HO
  isplitl [Hz]; · iexact Hz
  iexact Hp

/-- What the hand-shake uses up. -/
def greet (c : Dev nD) : sProp 𝕄 :=
  iprop((bigSep Finset.univ fun b : Fin 5 => dutyTok ER (barC (par b c)) 0 b) ∗ atPos ER (barC c) 0 ∅ 0 ∗ cred (tallyAt (barC c) () 5)
    ∗ bigSep Finset.univ fun s : Fin 30 => land (F := F) c s)

theorem wpc_shakeP (c : Dev nD) (W : Waits sig Unit) (Q : PUnit → sProp 𝕄) :
    iprop(ctx m ρ K ∗ owes (c : Thread nD τ) (owed₀ c) W ∗ greet (F := F) c
        ∗ ((owes (c : Thread nD τ) (owedX c 0) (insert (SemLoc.reg barSem, ()) W) ∗ semVal (barC c) 0
            ∗ bigSep Finset.univ fun s : Fin 30 => land (F := F) (pr s c) s) -∗ Q ⟨⟩))
      ⊢ wpc c (shakeP c) Q := by
  unfold shakeP greet owed₀
  rw [lands_group, bigSep_five, bigSep_five]
  iintro ⟨#Hctx, HO, ⟨⟨T0, T1, T2, T3, T4⟩, Ha, Hc, ⟨L0, L1, L2, L3, L4⟩⟩, HQ⟩
  rw [wpc_bind]
  iapply (wpc_signal m ρ K c (sigDev c 0) 0 (sigDev_eq c 0) 0 rfl W)
  isplitr; · iexact Hctx
  isplitl [HO]; · iexact HO
  isplitl [T0]; · iexact T0
  isplitl [L0]; · iexact L0
  iintro HO
  rw [wpc_bind]
  iapply (wpc_signal m ρ K c (sigDev c 1) 1 (sigDev_eq c 1) 1 rfl W)
  isplitr; · iexact Hctx
  isplitl [HO]; · iexact HO
  isplitl [T1]; · iexact T1
  isplitl [L1]; · iexact L1
  iintro HO
  rw [wpc_bind]
  iapply (wpc_signal m ρ K c (sigDev c 2) 2 (sigDev_eq c 2) 2 rfl W)
  isplitr; · iexact Hctx
  isplitl [HO]; · iexact HO
  isplitl [T2]; · iexact T2
  isplitl [L2]; · iexact L2
  iintro HO
  rw [wpc_bind]
  iapply (wpc_signal m ρ K c (sigDev c 3) 3 (sigDev_eq c 3) 3 rfl W)
  isplitr; · iexact Hctx
  isplitl [HO]; · iexact HO
  isplitl [T3]; · iexact T3
  isplitl [L3]; · iexact L3
  iintro HO
  rw [wpc_bind]
  iapply (wpc_signal m ρ K c (sigDev c 4) 4 (sigDev_eq c 4) 4 rfl W)
  isplitr; · iexact Hctx
  isplitl [HO]; · iexact HO
  isplitl [T4]; · iexact T4
  isplitl [L4]; · iexact L4
  iintro HO
  rw [show owedX c 0 + owedS c (4 + 1) = owedX c 0 from by rw [owedS_last, add_zero]]
  iapply (wpc_waitBar m ρ K c W Q)
  isplitr; · iexact Hctx
  isplitl [Hc]; · iexact Hc
  isplitl [HO]; · iexact HO
  isplitl [Ha]; · iexact Ha
  iexact HQ

/-! ## The body -/

theorem allR_emb (X : S64x512.Idx → Elt F .f32) : (fun j => X (allR.emb j)) = X :=
  Memref.read_access_unit_zero (Elt F) cc0_stg0_0 (by decide) inb_S64x512_S64x512_0_0 X

/-- A layer run from a value known to be the activations entering it. -/
theorem wpc_layerP_at (c : Dev nD) (l : Fin 3) (X : FVec F S64x512 .f32) (hX : X = acts m ρ l.val c) (Q : FVec F S64x512 .f32 → sProp 𝕄) :
    iprop(ctx m ρ K ∗ work (F := F) c (10 * l.val) (10 * l.val) ∗ halves (F := F) c ∗ hasWin m ρ c l ∗ hasWout m ρ c l
        ∗ ((work (F := F) c (10 * (l.val + 1)) (10 * (l.val + 1)) ∗ halves (F := F) c ∗ hasWin m ρ c l ∗ hasWout m ρ c l)
            -∗ Q (acts m ρ (l.val + 1) c)))
      ⊢ wpc c (layerP c l X) Q := hX ▸ wpc_layerP m ρ K c l Q

/-- The store of the result covers its buffer. -/
theorem wpc_storeOut (c : Dev nD) (y : FVec F S64x512 .f32) {hx : ((Memref.whole cc0_stg7_0).access allR).Stores Finset.univ}
    {hm : (Finset.univ : Finset allR.shape.Idx) = Finset.univ ∨ ∀ a, allR.stride a = 1} (Q : PUnit → sProp 𝕄) :
    iprop((∃ X, owns (c : Thread nD τ) (Memref.whole cc0_stg7_0) fullShare X)
        ∗ (owns (c : Thread nD τ) (Memref.whole cc0_stg7_0) fullShare y -∗ Q ⟨⟩))
      ⊢ wpc c (Prog.lift (.store (Memref.whole cc0_stg7_0) allR y Finset.univ hx hm)) Q := by
  simp only [owns_whole_eq]
  unfold wpc
  iintro ⟨⟨%X, %f, %hf, H⟩, HQ⟩
  iapply (wp_store 𝒱₀ (c : Thread nD τ) none Set.univ (m := Memref.whole cc0_stg7_0) (r := allR) (w := y) (Mk := Finset.univ) (hx := hx) (hm := hm)
    (f := f) (Finset.subset_univ _)) $$ H
  iintro H
  iapply (wpc_ret c _ Q)
  iapply HQ
  iexists _
  isplitr
  rotate_left
  · iexact H
  · ipureintro
    exact Memref.write_access_unit_zero_univ (Elt F) cc0_stg7_0 (by decide) inb_S64x512_S64x512_0_0 f y

/-- The staged inputs. -/
def inputs (c : Dev nD) : sProp 𝕄 :=
  iprop(owns (c : Thread nD τ) (Memref.whole cc0_stg0_0) fullShare (stgX m ρ c)
    ∗ (hasWin m ρ c 0 ∗ hasWout m ρ c 0) ∗ (hasWin m ρ c 1 ∗ hasWout m ρ c 1) ∗ (hasWin m ρ c 2 ∗ hasWout m ρ c 2))

/-- What the body starts from and what it ends in, scratch and rights. -/
def bodyIn (c : Dev nD) : sProp 𝕄 :=
  iprop(ctx m ρ K ∗ greet (F := F) c ∗ (bigSep Finset.univ fun s : Fin 30 => fresh (F := F) c s) ∗ halves (F := F) c)
def bodyOut (c : Dev nD) : sProp 𝕄 :=
  iprop(semVal (barC c) 0 ∗ (bigSep Finset.univ fun s : Fin 30 => done (F := F) c s) ∗ halves (F := F) c)

theorem work_start (c : Dev nD) (W : Waits sig Unit) :
    iprop((bigSep Finset.univ fun s : Fin 30 => fresh (F := F) c s) ∗ (bigSep Finset.univ fun s : Fin 30 => land (F := F) (pr s c) s)
        ∗ owes (c : Thread nD τ) (owedX c 0) W) ⊢ work (F := F) c 0 0 := by
  unfold work
  rw [Finset.filter_true_of_mem (fun s _ => Nat.zero_le _), Finset.filter_false_of_mem (fun s _ => Nat.not_lt_zero _), bigSep_empty]
  unfold ready
  rw [bigSep_sep']
  iintro ⟨Hf, Hl, HO⟩
  isplitl [Hf Hl]
  · isplitl [Hf] <;> iassumption
  isplitr; · iempintro
  iexists W; iexact HO

theorem work_end (c : Dev nD) :
    work (F := F) c 30 30 ⊢ iprop((bigSep Finset.univ fun s : Fin 30 => done (F := F) c s) ∗ ∃ W, owes (c : Thread nD τ) 0 W) := by
  unfold work
  rw [Finset.filter_true_of_mem (p := fun s : Fin 30 => s.val < 30) (fun s _ => s.isLt), owedX_last]
  iintro ⟨-, H⟩
  iexact H

theorem wpc_bodyP (c : Dev nD) (W : Waits sig Unit) (Q : PUnit → sProp 𝕄) :
    iprop(bodyIn m ρ K c ∗ owes (c : Thread nD τ) (owed₀ c) W ∗ inputs m ρ c
        ∗ (∃ X, owns (c : Thread nD τ) (Memref.whole cc0_stg7_0) fullShare X)
        ∗ ((bodyOut (F := F) c ∗ (∃ W, owes (c : Thread nD τ) 0 W) ∗ inputs m ρ c
            ∗ owns (c : Thread nD τ) (Memref.whole cc0_stg7_0) fullShare (acts m ρ 3 c)) -∗ Q ⟨⟩))
      ⊢ wpc c bodyP Q := by
  unfold bodyP bodyIn inputs
  iintro ⟨⟨#Hctx, Hg, Hf, Hh⟩, HO, ⟨Hx, ⟨I0, O0⟩, ⟨I1, O1⟩, ⟨I2, O2⟩⟩, ⟨%X7, Hout⟩, HQ⟩
  rw [wpc_bind, show wpc c (Prog.lift .deviceId) _ = _ from wp_deviceId .., wp_ret]
  imodintro
  rw [show (c : Thread nD τ).1 = c from rfl, wpc_bind]
  iapply (wpc_shakeP m ρ K c W)
  isplitr; · iexact Hctx
  isplitl [HO]; · iexact HO
  isplitl [Hg]; · iexact Hg
  iintro ⟨HO, Hz, Hl⟩
  ihave Hw := (work_start (F := F) c _) $$ [Hf Hl HO]
  · isplitl [Hf]; · iexact Hf
    isplitl [Hl] <;> iassumption
  rw [wpc_bind]
  iapply (wpc_load_part c (Memref.whole cc0_stg0_0) allR fullShare (stgX m ρ c))
  isplitl [Hx]; · iexact Hx
  iintro Hx
  rw [wpc_bind]
  iapply (wpc_layerP_at m ρ K c 0 _ (congrArg (fun Y => shapeCast S64x512 Y shapeCasts_S64x512_S64x512) (allR_emb (stgX m ρ c))))
  isplitr; · iexact Hctx
  isplitl [Hw]; · iexact Hw
  isplitl [Hh]; · iexact Hh
  isplitl [I0]; · iexact I0
  isplitl [O0]; · iexact O0
  iintro ⟨Hw, Hh, I0, O0⟩
  rw [wpc_bind]
  iapply (wpc_layerP m ρ K c 1)
  isplitr; · iexact Hctx
  isplitl [Hw]; · iexact Hw
  isplitl [Hh]; · iexact Hh
  isplitl [I1]; · iexact I1
  isplitl [O1]; · iexact O1
  iintro ⟨Hw, Hh, I1, O1⟩
  rw [wpc_bind]
  iapply (wpc_layerP m ρ K c 2)
  isplitr; · iexact Hctx
  isplitl [Hw]; · iexact Hw
  isplitl [Hh]; · iexact Hh
  isplitl [I2]; · iexact I2
  isplitl [O2]; · iexact O2
  iintro ⟨Hw, Hh, I2, O2⟩
  rw [wpc_bind]
  iapply (wpc_load_part c (Memref.whole cc0_stg7_0) allR fullShare X7)
  isplitl [Hout]; · iexact Hout
  iintro Hout
  rw [wpc_bind]
  iapply (wpc_storeOut c)
  isplitl [Hout]; · iexists X7; iexact Hout
  iintro Hout
  iapply (wpc_ret c _ Q)
  ihave He := (work_end (F := F) c) $$ Hw
  icases He with ⟨Hd, HO⟩
  iapply HQ
  unfold bodyOut
  isplitl [Hz Hd Hh]
  · isplitl [Hz]; · iexact Hz
    isplitl [Hd] <;> iassumption
  isplitl [HO]; · iexact HO
  isplitr [Hout]
  · isplitl [Hx]; · iexact Hx
    isplitl [I0 O0]
    · isplitl [I0] <;> iassumption
    isplitl [I1 O1]
    · isplitl [I1] <;> iassumption
    isplitl [I2] <;> iassumption
  iexact Hout

end Cert.KernelIdeal.Mlp

end
-- ==== Proof.Split.lean ====
/- A buffer owned at some contents is its parts owned at some contents: the two scratch buffers of halves as
   two halves each, the landing buffer as thirty slots, in both directions. -/
module

public import proofs.«01_k».proof.Proof.Body

@[expose] public section

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]
local notation "𝕄" => MT nD τ sig Unit (Elt F) ℕ UU ℕ

/-- Pieces on disjoint rectangles are the restrictions of one function. -/
theorem glue {T α : Type} [Nonempty α] {sh : Shape} (r : T → Rect sh)
    (hd : ∀ t t', t ≠ t' → Disjoint (r t).set (r t').set) (y : ∀ t, (r t).shape.Idx → α) :
    ∃ X : sh.Idx → α, ∀ t, (fun j => X ((r t).emb j)) = y t := by
  classical
  refine ⟨fun i => if h : ∃ t j, (r t).emb j = i then y h.choose h.choose_spec.choose else Classical.arbitrary α, fun t => funext fun j => ?_⟩
  have hex : ∃ t' j', (r t').emb j' = (r t).emb j := ⟨t, j, rfl⟩
  have key : ∀ t' j', (r t').emb j' = (r t).emb j → y t' j' = y t j := by
    intro t' j' e
    have ht : t' = t := by
      by_contra hne
      have h1 : (r t').emb j' ∈ (r t').set := (r t').map_emb_univ ▸ Finset.mem_map_of_mem _ (Finset.mem_univ j')
      have h2 : (r t).emb j ∈ (r t).set := (r t).map_emb_univ ▸ Finset.mem_map_of_mem _ (Finset.mem_univ j)
      exact Finset.disjoint_left.mp (hd t' t hne) h1 (e ▸ h2)
    subst ht
    rw [(r t').emb.injective e]
  show (if h : _ then _ else _) = _
  rw [dif_pos hex]
  exact key _ _ hex.choose_spec.choose_spec

/-- Assertions that entail each other are equal. -/
theorem eq_of_entails {P Q : sProp 𝕄} (h : P ⊢ Q) (h' : Q ⊢ P) : P = Q := BI.equiv_iff.mp ⟨h, h'⟩

/-- A reshaped memref covers the elements the memref covers, so owning either at some contents is the same. -/
theorem any_squeeze (c : Dev nD) {sp : Space} {s s' : Shape} {e : EltTy} (M : Memref sig .tc sp s e) (h : s.Squeezes s') :
    (iprop(∃ v, owns (c : Thread nD τ) (M.squeeze s' h) fullShare v) : sProp 𝕄)
      = iprop(∃ v, owns (c : Thread nD τ) M fullShare v) := by
  have key (N : Memref sig .tc sp s e) : (iprop(∃ v, owns (c : Thread nD τ) N fullShare v) : sProp 𝕄)
      = iprop(∃ f, N.view.loc (c : Thread nD τ) ↦[N.view.set]{fullShare} f) := by
    refine eq_of_entails ?_ ?_
    · unfold owns; iintro ⟨%v, %f, -, H⟩; iexists f; iexact H
    · unfold owns; iintro ⟨%f, H⟩; iexists _, f; isplitr; · (ipureintro; rfl)
      iexact H
  have same (f : Buf (Elt F) (M.view.loc (c : Thread nD τ))) :
      ((M.squeeze s' h).view.loc (c : Thread nD τ) ↦[(M.squeeze s' h).view.set]{fullShare} f : sProp 𝕄)
        = M.view.loc (c : Thread nD τ) ↦[M.view.set]{fullShare} f := by
    show (M.view.loc (c : Thread nD τ) ↦[(M.view.reshape s' h.numel_eq).set]{fullShare} f : sProp 𝕄) = _
    rw [View.set_reshape]
  rw [key M]
  refine eq_of_entails ?_ ?_
  · unfold owns; iintro ⟨%v, %f, -, H⟩; iexists f
    iapply (Entails.of_eq (same f)) $$ H
  · unfold owns; iintro ⟨%f, H⟩; iexists _, f; isplitr; · (ipureintro; rfl)
    iapply (Entails.of_eq (same f).symm) $$ H

section Parts

variable (c : Dev nD) {sp : Space} {sh s' : Shape} {e : EltTy} (M : Memref sig .tc sp sh e)
  {T : Type} [Fintype T] [DecidableEq T] (r : T → Rect sh) (hr : ∀ t a, (r t).stride a = 1)
  (hd : ∀ t t', t ≠ t' → Disjoint (r t).set (r t').set)
  (hcov : (Finset.univ : Finset T).biUnion (fun t => (r t).set) = Finset.univ)

include hd hcov

/-- A memref at some contents is its slices, each at some contents. -/
theorem any_parts [Nonempty (Elt F e)] :
    (iprop(∃ v, owns (c : Thread nD τ) M fullShare v) : sProp 𝕄)
      = bigSep Finset.univ fun t => iprop(∃ v, owns (c : Thread nD τ) (M.slice (r t) (hr t)) fullShare v) := by
  have some (t : T) (v : sh.Idx → Elt F e) :
      (owns (c : Thread nD τ) (M.slice (r t) (hr t)) fullShare (fun j => v ((r t).emb j)) : sProp 𝕄)
        ⊢ iprop(∃ w, owns (c : Thread nD τ) (M.slice (r t) (hr t)) fullShare w) := by
    iintro H; iexists _; iexact H
  refine eq_of_entails ?_ ?_
  · iintro ⟨%v, H⟩
    iapply ((owns_rects (c : Thread nD τ) M fullShare r hr hd hcov v).trans (bigSep_mono fun t _ => some t v)) $$ H
  · iintro H
    ihave HK := (BI.bigSep_exists_pi Finset.univ (fun (t : T) v => (owns (c : Thread nD τ) (M.slice (r t) (hr t)) fullShare v : sProp 𝕄))) $$ H
    icases HK with ⟨%y, H⟩
    obtain ⟨X, hX⟩ := glue (α := Elt F e) r hd y
    iexists X
    iapply (owns_of_rects (c : Thread nD τ) M fullShare r hr hd hcov X)
    iapply (Entails.of_eq (bigSep_congr fun t _ => by rw [hX t])) $$ H

end Parts

/-- Rectangles that share no first coordinate, and between them have every first coordinate. -/
theorem half_disjoint (k k' : Fin 2) (h : k ≠ k') : Disjoint (halfR k).set (halfR k').set := by
  refine Finset.disjoint_left.mpr fun i hi hi' => h ?_
  have h1 := Rect.mem_set_unit.mp hi (0 : Fin 3)
  have h2 := Rect.mem_set_unit.mp hi' (0 : Fin 3)
  simp at h1 h2
  omega

theorem slot_disjoint (s s' : Fin 30) (h : s ≠ s') : Disjoint (slotR s).set (slotR s').set := by
  refine Finset.disjoint_left.mpr fun i hi hi' => h ?_
  have h1 := Rect.mem_set_unit.mp hi (0 : Fin 3)
  have h2 := Rect.mem_set_unit.mp hi' (0 : Fin 3)
  simp at h1 h2
  omega

theorem half_cover : (Finset.univ : Finset (Fin 2)).biUnion (fun k => (halfR k).set) = Finset.univ := by
  refine Finset.eq_univ_of_forall fun i => Finset.mem_biUnion.mpr ⟨i (0 : Fin 3), Finset.mem_univ _, Rect.mem_set_unit.mpr ?_⟩
  intro a
  have h := (i a).isLt
  fin_cases a <;> simp at h ⊢ <;> exact h

theorem slot_cover : (Finset.univ : Finset (Fin 30)).biUnion (fun s => (slotR s).set) = Finset.univ := by
  refine Finset.eq_univ_of_forall fun i => Finset.mem_biUnion.mpr ⟨i (0 : Fin 3), Finset.mem_univ _, Rect.mem_set_unit.mpr ?_⟩
  intro a
  have h := (i a).isLt
  fin_cases a <;> simp at h ⊢ <;> exact h

/-- There is a float of either format: the one whose bits are zero. -/
instance f32_nonempty : Nonempty (Elt F .f32) := ⟨FloatOps.ofBits .f32 0⟩
instance bf16_nonempty : Nonempty (Elt F .bf16) := ⟨FloatOps.ofBits .bf16 0⟩

/-- A scratch buffer at some contents. -/
def scr (c : Dev nD) (b : Ref sig .tc) : sProp 𝕄 :=
  iprop(∃ f : Buf (Elt F) ((c : Thread nD τ).loc b), ((c : Thread nD τ).loc b) ↦{fullShare} f)

theorem scr_eq (c : Dev nD) (b : Ref sig .tc) :
    (scr (F := F) c b) = iprop(∃ v, owns (c : Thread nD τ) (Memref.whole b) fullShare v) := by
  unfold scr
  refine congrArg BIBase.exists (funext fun f => ?_)
  exact (owns_whole (c : Thread nD τ) b fullShare f).symm

theorem bigSep_two (Φ : Fin 2 → sProp 𝕄) : bigSep Finset.univ Φ = iprop(Φ 0 ∗ Φ 1) :=
  bigSep_univ_eq_bigSepL [0, 1] (by decide) (by decide) Φ

/-- The running sums' buffer is its two halves. -/
theorem scr_acc (c : Dev nD) : scr (F := F) c cc0_scratch0 = iprop(accAny (F := F) c 0 ∗ accAny (F := F) c 1) := by
  refine (scr_eq c _).trans ((any_parts c accB halfR (fun _ _ => rfl) half_disjoint half_cover).trans ?_)
  rw [bigSep_two]
  unfold accAny
  exact (congrArg₂ BIBase.sep (any_squeeze c _ _) (any_squeeze c _ _)).symm

/-- The sending buffer is its two halves. -/
theorem scr_snd (c : Dev nD) : scr (F := F) c cc0_scratch1 = iprop(sndAny (F := F) c 0 ∗ sndAny (F := F) c 1) := by
  refine (scr_eq c _).trans ((any_parts c sndB halfR (fun _ _ => rfl) half_disjoint half_cover).trans ?_)
  rw [bigSep_two]
  unfold sndAny
  exact (congrArg₂ BIBase.sep (any_squeeze c _ _) (any_squeeze c _ _)).symm

/-- The landing buffer is its thirty slots. -/
theorem scr_rcv (c : Dev nD) : scr (F := F) c cc0_scratch2 = bigSep Finset.univ fun s => land (F := F) c s := by
  refine (scr_eq c _).trans ((any_parts c rcvB slotR (fun _ _ => rfl) slot_disjoint slot_cover).trans ?_)
  refine bigSep_congr fun s _ => ?_
  unfold land
  exact (any_squeeze c _ _).symm

/-- The body's halves are the two scratch buffers of halves. -/
theorem halves_eq (c : Dev nD) : halves (F := F) c = iprop(scr (F := F) c cc0_scratch0 ∗ scr (F := F) c cc0_scratch1) := by
  rw [scr_acc, scr_snd]
  unfold halves
  refine eq_of_entails ?_ ?_
  · iintro ⟨⟨H1, H2⟩, H3, H4⟩
    isplitl [H1 H3]
    · isplitl [H1] <;> iassumption
    · isplitl [H2] <;> iassumption
  · iintro ⟨⟨H1, H2⟩, H3, H4⟩
    isplitl [H1 H3]
    · isplitl [H1] <;> iassumption
    · isplitl [H2] <;> iassumption

end Cert.KernelIdeal.Mlp

end
-- ==== Proof.Ghost.lean ====
/- The protocol's cells and tokens set up at launch: every device's cells opened as invariants, the tokens dealt
   to the devices that spend them, and the credit each device starts with. -/
module

public import proofs.«01_k».proof.Proof.Split

@[expose] public section

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

/-- The duties of a device's own cells: five at its barrier, one at each other cell. -/
abbrev TI : Type := Fin 5 ⊕ (Fin 30 ⊕ Fin 30)
abbrev tokI : TI → CI × Fin 5 := fun | .inl b => (.inl (), b) | .inr x => (.inr x, 0)

theorem tokI_inj : Function.Injective tokI := by
  intro a b h
  match a, b, h with
  | .inl _, .inl _, h => exact congrArg Sum.inl (congrArg Prod.snd h)
  | .inl _, .inr _, h => exact absurd (congrArg Prod.fst h) (by simp)
  | .inr _, .inl _, h => exact absurd (congrArg Prod.fst h) (by simp)
  | .inr _, .inr _, h => exact congrArg Sum.inr (Sum.inr.inj (congrArg Prod.fst h))

abbrev tokOf (x : Dev nD × TI) : GSem nD τ sig × ℕ × Fin 5 := (kcell (x.1, (tokI x.2).1), 0, (tokI x.2).2)

theorem tokOf_inj : Function.Injective tokOf := by
  rintro ⟨c, t⟩ ⟨c', t'⟩ h
  have h1 := Prod.mk.inj (kcell_inj (congrArg Prod.fst h))
  have h2 : (tokI t).2 = (tokI t').2 := congrArg (fun x : GSem nD τ sig × ℕ × Fin 5 => x.2.2) h
  exact Prod.ext h1.1 (tokI_inj (Prod.ext h1.2 h2))

def allCells : Finset (GSem nD τ sig) := Finset.univ.map ⟨kcell, kcell_inj⟩
def allToks : Finset (GSem nD τ sig × ℕ × Fin 5) := Finset.univ.map ⟨tokOf, tokOf_inj⟩

def u₀ : UU := (initOf (Pipeline.cells cfgs cellOf_inj) (Pipeline.launchToks cfgs cellOf_inj), initOf allCells allToks)

/-- The tokens of a device's own cells, and the tokens it spends: its signals', its departures', its arrivals' at
    the partners. -/
def toks (c : Dev nD) : sProp 𝕄 := bigSep Finset.univ fun t : TI => dutyTok ER (kcell (c, (tokI t).1)) 0 (tokI t).2
def payToks (c : Dev nD) : sProp 𝕄 :=
  iprop((bigSep Finset.univ fun b : Fin 5 => dutyTok ER (barC (par b c)) 0 b)
    ∗ (bigSep Finset.univ fun s : Fin 30 => dutyTok ER (sndC c s) 0 0)
    ∗ bigSep Finset.univ fun s : Fin 30 => dutyTok ER (rcvC (pr s c) s) 0 0)

theorem toks_eq (c : Dev nD) : (toks c : sProp 𝕄) =
    iprop((bigSep Finset.univ fun b : Fin 5 => dutyTok ER (barC c) 0 b)
      ∗ (bigSep Finset.univ fun s : Fin 30 => dutyTok ER (sndC c s) 0 0)
      ∗ bigSep Finset.univ fun s : Fin 30 => dutyTok ER (rcvC c s) 0 0) := by
  unfold toks
  rw [bigSep_univ_sum, bigSep_univ_sum]
  rfl

/-- Tokens dealt along a relabelling of the devices, one relabelling per index. -/
theorem deal {I : Type} [Fintype I] (e : I → Dev nD ≃ Dev nD) (Φ : Dev nD → I → sProp 𝕄) :
    (bigSep Finset.univ fun c : Dev nD => bigSep Finset.univ fun i : I => Φ c i)
      = bigSep Finset.univ fun c : Dev nD => bigSep Finset.univ fun i : I => Φ (e i c) i := by
  rw [bigSep_univ_comm, bigSep_congr (fun i _ => bigSep_univ_equiv (e i) fun c => Φ c i), bigSep_univ_comm]

/-- Every token of every cell goes to the device that spends it. -/
theorem toks_around : (bigSep Finset.univ fun c : Dev nD => (toks c : sProp 𝕄)) = bigSep Finset.univ fun c : Dev nD => payToks c := by
  rw [bigSep_congr fun c _ => toks_eq c]
  unfold payToks
  rw [bigSep_sep', bigSep_sep', bigSep_sep', bigSep_sep',
    deal parE fun c b => dutyTok ER (barC c) 0 b, deal prE fun c s => dutyTok ER (rcvC c s) 0 0]
  rfl

/-! ## What the launch deals, and what the devices make of it together -/

def G (c : Dev nD) : sProp 𝕄 :=
  iprop((bigSep Finset.univ fun k : CI => roundState ER (sched m ρ) (kcell (c, k)) 0)
    ∗ (bigSep Finset.univ fun k : CI => iprop(atPos ER (kcell (c, k)) 0 ∅ 0 ∗ reached ER (kcell (c, k)) 0)) ∗ toks c)

theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barC c) 0 := by
  unfold unscopedSems0; rw [bigSep_eq_bigSepL_of_eq [SemLoc.reg barSem] (by decide) (by decide)]; rfl

/-- A device's own semaphores and the barrier's, all at zero, are its cells' counters. -/
theorem sems0_eq (c : Dev nD) :
    (iprop(Pipeline.ownSems0 (Ix := Unit) (Name := ℕ) (U := UU) (Lvl := ℕ) (Val := Elt F) (τ := τ) osem c ∗ unscopedSems0 c) : sProp 𝕄)
      ⊢ bigSep Finset.univ fun k : CI => semVal (kcell (c, k)) 0 := by
  rw [unscopedSems0_eq, bigSep_univ_sum, Finset.univ_unique, bigSep_singleton]
  unfold Pipeline.ownSems0
  show _ ⊢ iprop(semVal (barC c) 0 ∗ bigSep Finset.univ fun k : Fin 30 ⊕ Fin 30 => semVal ((c : Thread nD τ), osem k) 0)
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- All cells' records, at the names `K`. -/
def records (K : Dev nD × CI → ℕ) : sProp 𝕄 :=
  bigSep Finset.univ fun ck : Dev nD × CI => iprop(cellInv ER (sched m ρ) (K ck) (kcell ck) ∗ reached ER (kcell ck) 0)

instance records_persistent (K : Dev nD × CI → ℕ) : BI.Persistent (records m ρ K) := by unfold records; infer_instance

/-- What stays with device `c`: its positions, and the tokens it spends. -/
def linear (c : Dev nD) : sProp 𝕄 := iprop((bigSep Finset.univ fun k : CI => atPos ER (kcell (c, k)) 0 ∅ 0) ∗ payToks c)

def G' (c : Dev nD) : sProp 𝕄 := iprop(∃ K, records m ρ K ∗ linear c)

theorem share_records (K : Dev nD × CI → ℕ) :
    iprop(records m ρ K ∗ bigSep Finset.univ fun c : Dev nD => linear c) ⊢ bigSep Finset.univ (G' m ρ) :=
  (sep_mono_left (BI.bigSep_of_persistent Finset.univ (records m ρ K))).trans (by
    rw [← bigSep_sep']
    refine bigSep_mono fun c _ => ?_
    show iprop(records m ρ K ∗ linear c) ⊢ G' m ρ c
    unfold G'
    iintro H; iexists K; iexact H)

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', toks_around, ← bigSep_univ_prod (fun ck : Dev nD × CI => iprop(∃ κ : ℕ, cellInv ER (sched m ρ) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, HR⟩, Htok⟩
  ihave HK := (BI.bigSep_exists_pi Finset.univ (fun (ck : Dev nD × CI) (κ : ℕ) => (cellInv ER (sched m ρ) κ (kcell ck) : sProp 𝕄))) $$ HI
  icases HK with ⟨%K, HI⟩
  iapply (share_records m ρ K)
  unfold records linear
  rw [bigSep_sep', bigSep_sep']
  isplitl [HI HR]
  · isplitl [HI] <;> iassumption
  · isplitl [Hat] <;> iassumption

/-- Every device's own and unscoped semaphores at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit at launch -/

/-- Dues of `n` from every device to the cell of another, along a relabelling: each cell is due `n`. -/
theorem sum_tally (e : Dev nD ≃ Dev nD) (cell : Dev nD → GSem nD τ sig) (hc : Function.Injective cell) (n : ℕ) (c : Dev nD) :
    ∑ d : Dev nD, (tallyAt (cell (e d)) () n : CellTallies nD τ sig Unit) (cell c) () = n := by
  rw [Finset.sum_eq_single (e.symm c)]
  · rw [tallyAt_apply, if_pos ⟨by rw [Equiv.apply_symm_apply], rfl⟩]
  · intro d _ hd
    rw [tallyAt_apply, if_neg]
    rintro ⟨h, -⟩
    exact hd (by rw [hc h, Equiv.symm_apply_apply])
  · intro h; exact absurd (Finset.mem_univ _) h

theorem barC_inj : Function.Injective barC := fun c c' h => congrArg (fun g : GSem nD τ sig => g.1.1) h
theorem rcvC_inj (s : Fin 30) : Function.Injective fun c => rcvC c s := fun c c' h => congrArg (fun g : GSem nD τ sig => g.1.1) h

theorem owedX_bar (d c : Dev nD) : owedX d 0 (barC c) () = 0 := by
  by_contra h
  obtain ⟨s, -, h⟩ := owedX_pos (Nat.pos_of_ne_zero h)
  cases congrArg (fun g : GSem nD τ sig => g.2) h
theorem owedS_rcv (d c : Dev nD) (s : Fin 30) : owedS d 0 (rcvC c s) () = 0 := by
  by_contra h
  obtain ⟨b, h⟩ := owedS_pos (Nat.pos_of_ne_zero h)
  cases congrArg (fun g : GSem nD τ sig => g.2) h

theorem due_bar (c : Dev nD) : ∑ d : Dev nD, owed₀ d (barC c) () = 5 := by
  have h (d : Dev nD) : owed₀ d (barC c) () = ∑ b : Fin 5, (tallyAt (barC (parE b d)) () 1 : CellTallies nD τ sig Unit) (barC c) () := by
    unfold owed₀
    rw [Pi.add_apply, Finsupp.add_apply, owedX_bar, Nat.zero_add]
    unfold owedS
    rw [Finset.filter_true_of_mem (fun _ _ => Nat.zero_le _), Finset.sum_apply, Finsupp.finset_sum_apply]
    rfl
  rw [Finset.sum_congr rfl fun d _ => h d, Finset.sum_comm,
    Finset.sum_congr rfl fun b _ => sum_tally (parE b) barC barC_inj 1 c, Finset.sum_const, Finset.card_univ, Fintype.card_fin]
  rfl

theorem rcvC_ne (d c : Dev nD) (s s' : Fin 30) (h : s' ≠ s) : rcvC c s ≠ rcvC d s' := fun e =>
  h (Sum.inr.inj (osem_inj (congrArg (fun g : GSem nD τ sig => g.2) e).symm))

theorem due_rcv (c : Dev nD) (s : Fin 30) : ∑ d : Dev nD, owed₀ d (rcvC c s) () = N := by
  have h (d : Dev nD) : owed₀ d (rcvC c s) () = (tallyAt (rcvC (prE s d) s) () N : CellTallies nD τ sig Unit) (rcvC c s) () := by
    unfold owed₀
    rw [Pi.add_apply, Finsupp.add_apply, owedS_rcv, Nat.add_zero]
    unfold owedX
    rw [Finset.filter_true_of_mem (fun _ _ => Nat.zero_le _), Finset.sum_apply, Finsupp.finset_sum_apply,
      Finset.sum_eq_single s (fun s' _ hs => by rw [tallyAt_apply, if_neg fun h => rcvC_ne _ _ _ _ hs h.1]) (fun h => absurd (Finset.mem_univ _) h)]
    rfl
  rw [Finset.sum_congr rfl fun d _ => h d]
  exact sum_tally (prE s) (fun c => rcvC c s) (rcvC_inj s) N c

theorem launch_eq (g : GSem nD τ sig) (n : ℕ) (h : ∑ d : Dev nD, owed₀ d g () = n) :
    tallyOn g (launchCredit (Pipeline.owing owed₀) 0 g) = (tallyAt g () n : CellTallies nD τ sig Unit) := by
  unfold tallyAt; refine congrArg _ (Finsupp.ext fun u => ?_); cases u
  rw [Pipeline.launchCredit_owing, Finsupp.single_eq_same, h]

/-- The cells a device is due credit at: its barrier and its thirty arrivals. -/
abbrev dueSem : Unit ⊕ Fin 30 → SemLoc sig := fun | .inl _ => .reg barSem | .inr s => .dma (rSem s)
theorem dueSem_inj : Function.Injective dueSem := by
  intro a b h
  match a, b, h with
  | .inl _, .inl _, _ => rfl
  | .inl _, .inr _, h => cases h
  | .inr _, .inl _, h => cases h
  | .inr x, .inr y, h => exact congrArg Sum.inr (Sum.inr.inj (osem_inj h))

theorem creds (c : Dev nD) :
    (Pipeline.launchCred owed₀ c : sProp 𝕄) ⊢ iprop(cred (tallyAt (barC c) () 5) ∗ bigSep Finset.univ fun s : Fin 30 => cred (tallyAt (rcvC c s) () N)) := by
  have e : (bigSep (Finset.univ.map ⟨dueSem, dueSem_inj⟩) fun sm : SemLoc sig =>
        (cred (tallyOn ((c : Thread nD τ), sm) (launchCredit (Pipeline.owing owed₀) 0 ((c : Thread nD τ), sm))) : sProp 𝕄))
      = iprop(cred (tallyAt (barC c) () 5) ∗ bigSep Finset.univ fun s : Fin 30 => cred (tallyAt (rcvC c s) () N)) := by
    rw [bigSep_map, bigSep_univ_sum, Finset.univ_unique, bigSep_singleton]
    exact congrArg₂ BIBase.sep (congrArg cred (launch_eq _ 5 (due_bar c)))
      (bigSep_congr fun s _ => congrArg cred (launch_eq _ N (due_rcv c s)))
  unfold Pipeline.launchCred
  rw [← e]
  exact bigSep_subset (Finset.subset_univ _)

end Cert.KernelIdeal.Mlp

end
-- ==== Proof.Launch.lean ====
/- The launch: the body met with the staged blocks, and the run of the whole program. -/
module

public import proofs.«01_k».proof.Proof.Ghost
public import Idealize.ShloMosaic.Lib.Pipeline.CollectiveSegs

@[expose] public section

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

/-- What device `c` starts from: the cells' records, its positions and tokens, its credit, the levels. -/
def start (c : Dev nD) : sProp 𝕄 :=
  iprop(G' m ρ c ∗ (cred (tallyAt (barC c) () 5) ∗ bigSep Finset.univ fun s : Fin 30 => cred (tallyAt (rcvC c s) () N)) ∗ levs)

/-- The scratch buffers, at some contents. -/
def scratch (c : Dev nD) : sProp 𝕄 := iprop(scr (F := F) c cc0_scratch0 ∗ scr (F := F) c cc0_scratch1 ∗ scr (F := F) c cc0_scratch2)

/-- All counters of a device's cells at zero. -/
def zeroed (c : Dev nD) : sProp 𝕄 :=
  iprop(semVal (barC c) 0 ∗ (bigSep Finset.univ fun s : Fin 30 => semVal (sndC c s) 0) ∗ bigSep Finset.univ fun s : Fin 30 => semVal (rcvC c s) 0)

def Φ₀ (c : Dev nD) : sProp 𝕄 := iprop(start m ρ c ∗ scratch (F := F) c)
def Φ₁ (c : Dev nD) : sProp 𝕄 := iprop(zeroed (F := F) c ∗ scratch (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => stgX m ρ c
    | ⟨1, _⟩ => stgWin m ρ 0 c
    | ⟨2, _⟩ => stgWout m ρ 0 c
    | ⟨3, _⟩ => stgWin m ρ 1 c
    | ⟨4, _⟩ => stgWout m ρ 1 c
    | ⟨5, _⟩ => stgWin m ρ 2 c
    | ⟨6, _⟩ => stgWout m ρ 2 c
    | ⟨7, _⟩ => acts m ρ 3 c
  Φ t := match t with
    | ⟨0, _⟩ => Φ₀ m ρ c
    | ⟨_ + 1, _⟩ => Φ₁ c
  q _ := fullShare
  owed t := match t with
    | ⟨0, _⟩ => owed₀ c
    | ⟨_ + 1, _⟩ => 0

/-! ## The body, from the launch's start to its end -/

theorem ctx_intro (K : Dev nD × CI → ℕ) : iprop(records m ρ K ∗ levs) ⊢ ctx m ρ K := by
  unfold ctx records
  iintro H; iexact H

/-- The start holds what the hand-shake and the transfers need. -/
theorem start_body (c : Dev nD) : iprop(start m ρ c ∗ scratch (F := F) c) ⊢ iprop(∃ K, bodyIn m ρ K c) := by
  unfold start scratch G' linear payToks bodyIn greet fresh
  rw [scr_rcv, halves_eq, bigSep_univ_sum, bigSep_univ_sum, Finset.univ_unique, bigSep_singleton]
  rw [bigSep_sep', bigSep_sep', bigSep_sep', bigSep_sep']
  show iprop(((∃ K, records m ρ K ∗ (atPos ER (barC c) 0 ∅ 0
            ∗ (bigSep Finset.univ fun s : Fin 30 => atPos ER (sndC c s) 0 ∅ 0) ∗ bigSep Finset.univ fun s : Fin 30 => atPos ER (rcvC c s) 0 ∅ 0)
          ∗ (bigSep Finset.univ fun b : Fin 5 => dutyTok ER (barC (par b c)) 0 b)
          ∗ (bigSep Finset.univ fun s : Fin 30 => dutyTok ER (sndC c s) 0 0)
          ∗ bigSep Finset.univ fun s : Fin 30 => dutyTok ER (rcvC (pr s c) s) 0 0)
        ∗ (cred (tallyAt (barC c) () 5) ∗ bigSep Finset.univ fun s : Fin 30 => cred (tallyAt (rcvC c s) () N)) ∗ levs)
      ∗ scr (F := F) c cc0_scratch0 ∗ scr (F := F) c cc0_scratch1 ∗ bigSep Finset.univ fun s => land (F := F) c s) ⊢ _
  iintro ⟨⟨⟨%K, HR, ⟨HaB, HaS, HaV⟩, HtB, HtS, HtV⟩, ⟨HcB, HcV⟩, Hlev⟩, H0, H1, H2⟩
  iexists K
  isplitl [HR Hlev]
  · iapply (ctx_intro m ρ K)
    isplitl [HR] <;> iassumption
  isplitl [HtB HaB HcB H2]
  · isplitl [HtB]; · iexact HtB
    isplitl [HaB]; · iexact HaB
    isplitl [HcB] <;> iassumption
  isplitl [HtS HtV HaS HaV HcV]
  · isplitl [HtS]; · iexact HtS
    isplitl [HtV]; · iexact HtV
    isplitl [HaS]; · iexact HaS
    isplitl [HaV] <;> iassumption
  isplitl [H0] <;> iassumption

theorem body_end (c : Dev nD) : bodyOut (F := F) c ⊢ Φ₁ (F := F) c := by
  unfold bodyOut Φ₁ zeroed scratch done
  rw [scr_rcv, halves_eq, bigSep_sep', bigSep_sep']
  iintro ⟨HB, ⟨⟨HS, HV⟩, H2⟩, H0, H1⟩
  isplitl [HB HS HV]
  · isplitl [HB]; · iexact HB
    isplitl [HS] <;> iassumption
  isplitl [H0]; · iexact H0
  isplitl [H1] <;> iassumption

/-- The staged blocks before the body: the seven inputs, and the result's buffer at anything. -/
theorem before_eq (c : Dev nD) (w : Fin cfg0.W) (hw : (cfg0.win w).fetch t0_0 = true) (d : (cfg0.win w).block.Idx → Elt F (cfg0.win w).elt) :
    (dats m ρ 0 c).before w t0_0 d = (dats m ρ 0 c).fetched w t0_0 d := by
  unfold Dat.before; rw [if_pos hw]

/-- The body's entry and exit as the library states them, window by window. -/
def pre (c : Dev nD) : sProp 𝕄 :=
  iprop(Φ₀ m ρ c ∗ (dats m ρ 0 c).owesAt () t0_0.castSucc
    ∗ (∃ d, owns (c : Thread nD τ) (Memref.whole cc0_stg0_0) fullShare ((dats m ρ 0 c).before (0 : Fin 8) t0_0 d))
    ∗ (∃ d, owns (c : Thread nD τ) (Memref.whole cc0_stg1_0) fullShare ((dats m ρ 0 c).before (1 : Fin 8) t0_0 d))
    ∗ (∃ d, owns (c : Thread nD τ) (Memref.whole cc0_stg2_0) fullShare ((dats m ρ 0 c).before (2 : Fin 8) t0_0 d))
    ∗ (∃ d, owns (c : Thread nD τ) (Memref.whole cc0_stg3_0) fullShare ((dats m ρ 0 c).before (3 : Fin 8) t0_0 d))
    ∗ (∃ d, owns (c : Thread nD τ) (Memref.whole cc0_stg4_0) fullShare ((dats m ρ 0 c).before (4 : Fin 8) t0_0 d))
    ∗ (∃ d, owns (c : Thread nD τ) (Memref.whole cc0_stg5_0) fullShare ((dats m ρ 0 c).before (5 : Fin 8) t0_0 d))
    ∗ (∃ d, owns (c : Thread nD τ) (Memref.whole cc0_stg6_0) fullShare ((dats m ρ 0 c).before (6 : Fin 8) t0_0 d))
    ∗ (∃ d, owns (c : Thread nD τ) (Memref.whole cc0_stg7_0) fullShare ((dats m ρ 0 c).before (7 : Fin 8) t0_0 d)))

def post (c : Dev nD) : sProp 𝕄 :=
  iprop(Φ₁ (F := F) c ∗ (dats m ρ 0 c).owesAt () t0_0.succ
    ∗ owns (c : Thread nD τ) (Memref.whole cc0_stg0_0) fullShare (stgX m ρ c)
    ∗ owns (c : Thread nD τ) (Memref.whole cc0_stg1_0) fullShare (stgWin m ρ 0 c)
    ∗ owns (c : Thread nD τ) (Memref.whole cc0_stg2_0) fullShare (stgWout m ρ 0 c)
    ∗ owns (c : Thread nD τ) (Memref.whole cc0_stg3_0) fullShare (stgWin m ρ 1 c)
    ∗ owns (c : Thread nD τ) (Memref.whole cc0_stg4_0) fullShare (stgWout m ρ 1 c)
    ∗ owns (c : Thread nD τ) (Memref.whole cc0_stg5_0) fullShare (stgWin m ρ 2 c)
    ∗ owns (c : Thread nD τ) (Memref.whole cc0_stg6_0) fullShare (stgWout m ρ 2 c)
    ∗ owns (c : Thread nD τ) (Memref.whole cc0_stg7_0) fullShare (acts m ρ 3 c))

theorem staged (c : Dev nD) (b : Ref sig .tc) {β : Type} (Y : β → b.ty.Contents (Elt F)) (X : b.ty.Contents (Elt F)) (h : ∀ d, Y d = X) :
    (iprop(∃ d, owns (c : Thread nD τ) (Memref.whole b) fullShare (Y d)) : sProp 𝕄) ⊢ owns (c : Thread nD τ) (Memref.whole b) fullShare X := by
  iintro ⟨%d, H⟩
  rw [h d]
  iexact H

theorem body_run (c : Dev nD) : pre m ρ c ⊢ wpc c bodyP (fun _ => post m ρ c) := by
  unfold pre post Φ₀ Dat.owesAt Pipeline.owesWithin
  rw [show (dats m ρ 0 c).owed t0_0.castSucc = owed₀ c from rfl, show (dats m ρ 0 c).owed t0_0.succ = 0 from rfl]
  iintro ⟨Hs, ⟨%W, %hW, HO⟩, H0, H1, H2, H3, H4, H5, H6, ⟨%d7, H7⟩⟩
  ihave HB := (start_body m ρ c) $$ Hs
  icases HB with ⟨%K, HB⟩
  ihave H0 := (staged c cc0_stg0_0 _ (stgX m ρ c) fun d => (before_eq m ρ c 0 rfl d).trans rfl) $$ H0
  ihave H1 := (staged c cc0_stg1_0 _ (stgWin m ρ 0 c) fun d => (before_eq m ρ c 1 rfl d).trans rfl) $$ H1
  ihave H2 := (staged c cc0_stg2_0 _ (stgWout m ρ 0 c) fun d => (before_eq m ρ c 2 rfl d).trans rfl) $$ H2
  ihave H3 := (staged c cc0_stg3_0 _ (stgWin m ρ 1 c) fun d => (before_eq m ρ c 3 rfl d).trans rfl) $$ H3
  ihave H4 := (staged c cc0_stg4_0 _ (stgWout m ρ 1 c) fun d => (before_eq m ρ c 4 rfl d).trans rfl) $$ H4
  ihave H5 := (staged c cc0_stg5_0 _ (stgWin m ρ 2 c) fun d => (before_eq m ρ c 5 rfl d).trans rfl) $$ H5
  ihave H6 := (staged c cc0_stg6_0 _ (stgWout m ρ 2 c) fun d => (before_eq m ρ c 6 rfl d).trans rfl) $$ H6
  iapply (wpc_bodyP m ρ K c W fun _ => _)
  isplitl [HB]; · iexact HB
  isplitl [HO]; · iexact HO
  isplitl [H0 H1 H2 H3 H4 H5 H6]
  · unfold inputs hasWin hasWout
    isplitl [H0]; · iexact H0
    isplitl [H1 H2]
    · isplitl [H1] <;> iassumption
    isplitl [H3 H4]
    · isplitl [H3] <;> iassumption
    isplitl [H5] <;> iassumption
  isplitl [H7]
  · iexists _; iexact H7
  iintro ⟨HB, ⟨%W', HO⟩, HI, H7⟩
  unfold inputs hasWin hasWout
  icases HI with ⟨H0, ⟨H1, H2⟩, ⟨H3, H4⟩, H5, H6⟩
  isplitl [HB]
  · iapply (body_end c) $$ HB
  isplitl [HO]
  · iexists W'
    isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxRecDepth 200000 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  show pre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_stg6_0) (Memref.isWhole_whole _) (Memref.whole cc0_stg7_0) (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4) (fun _ => post m ρ c)
  rw [cc0_body_eq]
  exact body_run m ρ c

/-! ## The launch theorem's side conditions -/

theorem ownSemFacts : Pipeline.OwnSemFacts cfg0.spec osem := by decide +kernel

theorem share_eq (c : Dev nD) (w : Fin cfg0.W) : (dats m ρ 0 c).share w = fullShare := by unfold Dat.share; split <;> rfl

theorem ownSems0_eq (c : Dev nD) : (Pipeline.ownSems0 (Ix := Unit) (Name := ℕ) (U := UU) (Lvl := ℕ) (Val := Elt F) (τ := τ) osem c : sProp 𝕄)
    = iprop((bigSep Finset.univ fun s : Fin 30 => semVal (sndC c s) 0) ∗ bigSep Finset.univ fun s : Fin 30 => semVal (rcvC c s) 0) := by
  unfold Pipeline.ownSems0
  rw [bigSep_univ_sum]
  rfl

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start levs
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ zeroed scratch scr
  iintro ⟨⟨HB, HS⟩, Hr⟩
  isplitl [HB]; · iexact HB
  isplitl [HS] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by revert w s; decide +kernel) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 200000 in
/-- From any memory with zero counters, for any float values: every weakly fair execution ends, each device's
    arrays hold what `finalA` says, and every semaphore counter is at zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := owed₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

set_option maxRecDepth 200000 in
/-- The seven inputs hold after the run what they held. -/
theorem finalA_in (c : Dev nD) (w : Fin 8) (hw : w ≠ 7) : finalA m ρ c w = (s₀ m ρ).mem ((cfg0.win w).arr.view.loc (c : Thread nD τ)) :=
  (dats (F := F) m ρ 0 c).arrAt_in w (by revert hw; revert w; decide) _

end Cert.KernelIdeal.Mlp

end
-- ==== Proof.Frames.lean ====
/- Both programs run to the end, leave their arguments as they were and every counter at zero. The two print the
   same text, so the one run, at any float values, serves both. -/
module

public import proofs.«01_k».proof.Proof.Launch
public import proofs.«01_k».proof.Proof.Gen.Kernel
public import proofs.«01_k».proof.Defs

@[expose] public section

noncomputable section

namespace Cert.KernelIdeal.Mlp

open Idealize.ShloMosaic Idealize.ShloMosaic.TcCoe
open Idealize.SL.Sem
open Cert.KernelIdeal.Gen

variable {F : FTy → Type} [FloatOps F]
variable (m : (ℓ : Loc nD τ sig) → Buf (Elt F) ℓ) (ρ : Dev nD → PrngReg)

/-- The arguments of device `c` in `r` are those at launch. -/
abbrev Kept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)

theorem kept {r : PUnit × MemSt nD τ sig (Elt F)} (h : QC m ρ r) (c : Dev nD) : Kept m r c :=
  have k (w : Fin 8) (hw : w ≠ 7) := (h c w).trans (finalA_in m ρ c w hw)
  ⟨k 0 (by decide), k 1 (by decide), k 3 (by decide), k 5 (by decide), k 2 (by decide), k 4 (by decide), k 6 (by decide)⟩

/-- The run, with the arguments kept. -/
theorem run_kept : θ_run defs (onTc (τ := τ) (main (F := F))) (s₀ m ρ) (fun r => (∀ c, Kept m r c) ∧ r.2.sem = fun _ => 0) :=
  (θ_run defs _ _).mono (fun _ h => ⟨kept m ρ h.1, h.2⟩) (run_main m ρ)

theorem frame_ideal : Cert.quiescent_KernelIdeal := fun m ρ _ => run_kept m ρ

set_option maxRecDepth 200000 in
/-- The two programs have the same body. -/
theorem defs₀_eq : Cert.KernelIdeal.defs₀ (F := Bits) = Cert.Kernel.defs₀ (F := Bits) := by
  unfold Cert.KernelIdeal.defs₀ Cert.Kernel.defs₀
  refine congrArg Defs.onTc (funext fun l => ?_)
  match l with
  | ⟨0, _⟩ => funext x; obtain ⟨t, s⟩ := x; rfl

theorem defs_eq : Cert.KernelIdeal.defs (F := Bits) = Cert.Kernel.defs (F := Bits) :=
  congrArg (Pipeline.defs Cert.KernelIdeal.pcfgs) defs₀_eq

theorem frame_kernel : Cert.quiescent_Kernel := fun m ρ _ => by
  have h := run_kept (F := Bits) m ρ
  rw [defs_eq] at h
  exact h

end Cert.KernelIdeal.Mlp

end
-- ==== Proof.RefFrame.lean ====
/- The reference's frame: its straight-line run ends, its arguments stand unchanged, and there is no
   semaphore whose counter could differ from zero. -/
module

public import proofs.«01_k».proof.Defs
public import proofs.«01_k».proof.Proof.Gen.ReferenceIdeal.Run
public import Idealize.ShloMosaic.Lib.Quiescent

@[expose] public section

noncomputable section

namespace Cert.ReferenceIdeal.Mlp

open Cert.ReferenceIdeal Cert.ReferenceIdeal.Gen Idealize.ShloMosaic Idealize.ShloMosaic.TcCoe Idealize.SL.Sem

/-- The reference runs to its end with every argument unchanged and every counter at zero. -/
theorem frame_reference : Cert.quiescent_ReferenceIdeal := fun m ρ _ =>
  (θ_run defs _ _).mono (fun r h => ⟨fun c => (h c).2, sem_eq_zero_of_no_sems (by decide) r.2⟩)
    (Value.run m ρ)

end Cert.ReferenceIdeal.Mlp

end
-- ==== Proof.ReadBack.lean ====
/- The kernel's windows are whole arrays: what the staging buffers hold are the arguments, and what the result's
   array ends at is the third layer's result. -/
module

public import proofs.«01_k».proof.Proof.Launch
public import proofs.«01_k».proof.Proof.Gen.KernelIdeal.Points
public import Idealize.ShloMosaic.Lib.Pipeline.Value

@[expose] public section

noncomputable section

namespace Cert.KernelIdeal.Mlp

open Idealize.ShloMosaic Idealize.ShloMosaic.TcCoe Idealize.ShloMosaic.Pipeline
open Idealize.SL.Sem
open Cert.KernelIdeal.Gen

variable {F : FTy → Type} [FloatOps F]
variable (m : (ℓ : Loc nD τ sig) → Buf (Elt F) ℓ) (ρ : Dev nD → PrngReg)

/-- The only block of a window of the array's own sizes is the array: an index of it is itself. -/
theorem block_emb {s : Shape} (inb : ∀ a, 0 * s.size a + s.size a ≤ s.size a) (x : s.Idx) :
    (Rect.unit (fun a => 0 * s.size a) s.size inb).emb x = x :=
  funext fun a => Fin.ext (show 0 * s.size a + 1 * (x a).val = (x a).val by omega)

/-- What the staging buffers hold: the arguments. -/
theorem stgX_eq (c : Dev nD) : stgX m ρ c = m ((c : Thread nD τ).loc main_arg0) :=
  funext fun x => congrArg (m ((c : Thread nD τ).loc main_arg0)) (block_emb (s := S64x512) _ x)

theorem stgWin_eq (l : Fin 3) (c : Dev nD) : stgWin m ρ l c = match l with
    | 0 => m ((c : Thread nD τ).loc main_arg1)
    | 1 => m ((c : Thread nD τ).loc main_arg2)
    | 2 => m ((c : Thread nD τ).loc main_arg3) :=
  funext fun x => match l with
    | 0 => congrArg (m ((c : Thread nD τ).loc main_arg1)) (block_emb (s := S512x1024) _ x)
    | 1 => congrArg (m ((c : Thread nD τ).loc main_arg2)) (block_emb (s := S512x1024) _ x)
    | 2 => congrArg (m ((c : Thread nD τ).loc main_arg3)) (block_emb (s := S512x1024) _ x)

theorem stgWout_eq (l : Fin 3) (c : Dev nD) : stgWout m ρ l c = match l with
    | 0 => m ((c : Thread nD τ).loc main_arg4)
    | 1 => m ((c : Thread nD τ).loc main_arg5)
    | 2 => m ((c : Thread nD τ).loc main_arg6) :=
  funext fun x => match l with
    | 0 => congrArg (m ((c : Thread nD τ).loc main_arg4)) (block_emb (s := S1024x512) _ x)
    | 1 => congrArg (m ((c : Thread nD τ).loc main_arg5)) (block_emb (s := S1024x512) _ x)
    | 2 => congrArg (m ((c : Thread nD τ).loc main_arg6)) (block_emb (s := S1024x512) _ x)

/-- The result window's block at the only point, as the array's own indices. -/
theorem out_emb (t : Fin cfg0.N) (x : S64x512.Idx) : ((cfg0.win 7).blk t).view.emb x = x :=
  block_emb (s := S64x512) _ x

set_option maxRecDepth 200000 in
/-- The result's array ends at the third layer's result. -/
theorem finalA_out (c : Dev nD) : finalA m ρ c 7 = acts m ρ 3 c :=
  (dats m ρ 0 c).arrAt_eq_of_cover 7 (acts m ρ 3 c)
    (fun t _ => funext fun x => (congrArg (acts m ρ 3 c) (out_emb t x)).symm)
    (fun i => ⟨t0_0, flush0_7 t0_0, (out_emb t0_0 i) ▸ ((cfg0.win 7).blk t0_0).view.emb_mem_set i⟩)

end Cert.KernelIdeal.Mlp

end
-- ==== Proof.RefLayer.lean ====
/- The reference as three layers: one layer element by element, and the reference's run in terms of it. -/
module

public import proofs.«01_k».proof.Proof.Gen.ReferenceIdeal.Run
public import Idealize.ShloMosaic.Lib.StackMember
public import Idealize.ShloMosaic.Lib.IdealHost

@[expose] public section

noncomputable section

namespace Cert.ReferenceIdeal.Mlp

open Cert.ReferenceIdeal Cert.ReferenceIdeal.Gen Idealize.ShloMosaic Idealize.ShloMosaic.TcCoe Idealize.ShloMosaic.ValueIdx
open Idealize.SL.Sem
open scoped BigOperators

/-- One layer of the reference: a product, its positive part, a second product. -/
def layer (X : FVec Ideal S64x16384 .f32) (W : FVec Ideal S16384x1024 .f32) (V : FVec Ideal S1024x16384 .f32) :
    FVec Ideal S64x16384 .f32 :=
  Host.dotGeneral dot_S64x1024_S1024x16384_S64x16384_1_0_0_1_n_n none
    (maximumf (Host.dotGeneral dot_S64x16384_S16384x1024_S64x1024_1_0_0_1_n_n none X W)
      (broadcastInDim S64x1024 ![] bcast_S_S64x1024 (constant S_ .f32 0x00000000#32))) V

/-- A layer's element: a sum over the hidden width of the positive parts of the first product's sums. -/
theorem layer_apply (X : FVec Ideal S64x16384 .f32) (W : FVec Ideal S16384x1024 .f32) (V : FVec Ideal S1024x16384 .f32)
    (i : Fin 64) (p : Fin 16384) :
    layer X W V (ix2 i p)
      = (∑ h : Fin 1024, max (∑ q : Fin 16384, X (ix2 i q) * W (ix2 q h)) 0 * V (ix2 h p) : EReal) := by
  refine (StackMember.dotGeneral_plain_apply (m := 64) (n := 16384) (k := 1024) none _ V i p).trans ?_
  refine Finset.sum_congr rfl fun h _ => ?_
  refine congrArg (fun z : EReal => z * (V (ix2 h p) : EReal)) ?_
  show max (Host.dotGeneral (DotDims.plain 64 16384 1024) none X W (ix2 i h) : EReal)
    (Ideal.ofBits .f32 0x00000000#32) = _
  rw [Ideal.ofBits_zero_f32, StackMember.dotGeneral_plain_apply]

/-- The result of the reference from the seven arguments of a memory. -/
def result (m : (ℓ : Loc nD τ sig) → Buf (Elt Ideal) ℓ) (c : Dev nD) : FVec Ideal S64x16384 .f32 :=
  layer (layer (layer (m ((c.tc : Thread nD τ).loc main_arg0))
      (m ((c.tc : Thread nD τ).loc main_arg1)) (m ((c.tc : Thread nD τ).loc main_arg4)))
      (m ((c.tc : Thread nD τ).loc main_arg2)) (m ((c.tc : Thread nD τ).loc main_arg5)))
    (m ((c.tc : Thread nD τ).loc main_arg3)) (m ((c.tc : Thread nD τ).loc main_arg6))

/-- The reference's run leaves the three layers' result, and its arguments as they were. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v11) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h => h) (Value.run m ρ)

end Cert.ReferenceIdeal.Mlp

end
-- ==== Proof.Sums.lean ====
/- What one layer computes over the extended reals: the butterfly's exchanges add up every device's product,
   the products over the devices' blocks are the product over the whole row, and the two halves of the hidden
   width are the whole width. -/
module

public import proofs.«01_k».proof.Proof.Proto
public import Idealize.ShloMosaic.Lib.Layout
public import Idealize.ShloMosaic.Lib.StackMember
public import Idealize.ShloMosaic.Lib.KernelVsHost
public import Idealize.ShloMosaic.Lib.Pipeline.Value
public import Idealize.ShloMosaic.Lib.IdealHost
public import proofs.«01_k».proof.Proof.RefLayer

@[expose] public section

noncomputable section

namespace Cert.KernelIdeal.Mlp

open Idealize.ShloMosaic Idealize.ShloMosaic.TcCoe Idealize.ShloMosaic.ValueIdx
open Idealize.SL.Sem
open Cert.KernelIdeal.Gen
open scoped BigOperators

/-! ## The butterfly -/

/-- The devices whose products device `c` has added up after `r` rounds. -/
def orb (k : Fin 2) : ℕ → Dev nD → List (Dev nD)
  | 0 => fun c => [c]
  | r + 1 => fun c => orb k r c ++ orb k r (par (bit k (Fin.ofNat 5 r)) c)

/-- After five rounds each device has been met once. -/
theorem orb_perm : ∀ (k : Fin 2) (c : Dev nD), (orb k 5 c).Perm (List.finRange nD) := by decide +kernel

/-- A running sum is the sum over the devices met so far: rounding is the identity here. -/
theorem sums_orb (k : Fin 2) (X : Dev nD → FVec Ideal S64x512 .f32) (i : S64x512.Idx) :
    ∀ (r : ℕ) (c : Dev nD), sums k X r c i = ((orb k r c).map fun d => X d i).sum
  | 0, c => (List.sum_singleton (x := (X c i : EReal))).symm
  | r + 1, c => by
    have h : sums k X (r + 1) c i = (sums k X r c i + sums k X r (par (bit k (Fin.ofNat 5 r)) c) i : EReal) := rfl
    rw [h, sums_orb k X i r c, sums_orb k X i r _]
    show _ = ((orb k r c ++ orb k r _).map fun d => (X d i : EReal)).sum
    rw [List.map_append, List.sum_append]

/-- The whole exchange adds up all the devices' products. -/
theorem sums_all (k : Fin 2) (X : Dev nD → FVec Ideal S64x512 .f32) (c : Dev nD) (i : S64x512.Idx) :
    sums k X 5 c i = (∑ d : Dev nD, X d i : EReal) := by
  rw [sums_orb, ((orb_perm k c).map fun d => (X d i : EReal)).sum_eq]
  exact (Fin.sum_univ_def fun d => (X d i : EReal)).symm

/-! ## Products -/

/-- A product of a block with half a weight, element by element. -/
theorem mm_apply (x : FVec Ideal S64x512 .f32) (w : FVec Ideal S512x512 .f32) (i : Fin 64) (j : Fin 512) :
    mm x w (ix2 i j) = (∑ q : Fin 512, x (ix2 i q) * w (ix2 q j) : EReal) := by
  unfold mm
  rw [shapeCast_self, matmul_zero_eq_dotGeneral]
  exact StackMember.dotGeneral_plain_apply (m := 64) (n := 512) (k := 512) none x w i j

/-- A sum over a range cut into equal blocks, block by block. -/
theorem sum_blocks {A : Type} [AddCommMonoid A] (a b : ℕ) (f : Fin (a * b) → A) :
    ∑ p, f p = ∑ d : Fin a, ∑ q : Fin b, f ⟨d.val * b + q.val, by
      have := Nat.mul_le_mul_right b d.isLt; have := q.isLt; rw [Nat.succ_mul] at *; omega⟩ := by
  rw [← finProdFinEquiv.sum_comp, Fintype.sum_prod_type]
  refine Finset.sum_congr rfl fun d _ => Finset.sum_congr rfl fun q _ => congrArg f (Fin.ext ?_)
  show q.val + b * d.val = d.val * b + q.val
  rw [Nat.mul_comm, Nat.add_comm]

/-- Column `q` of device `d`'s block in the whole array. -/
def wide (d : Dev nD) (q : Fin 512) : Fin 16384 := ⟨d.val * 512 + q.val, by have : d.val < 32 := d.isLt; omega⟩
/-- Column `j` of half `k` in the hidden width. -/
def hid (k : Fin 2) (j : Fin 512) : Fin 1024 := ⟨k.val * 512 + j.val, by omega⟩

theorem sum_wide (f : Fin 16384 → EReal) : ∑ p, f p = ∑ d : Dev nD, ∑ q : Fin 512, f (wide d q) := sum_blocks 32 512 f
theorem sum_hid (f : Fin 1024 → EReal) : ∑ h, f h = ∑ k : Fin 2, ∑ j : Fin 512, f (hid k j) := sum_blocks 2 512 f

variable (m : (ℓ : Loc nD τ sig) → Buf (Elt Ideal) ℓ) (ρ : Dev nD → PrngReg)

/-- Half `k` of the first weight and of the second, by coordinates. -/
theorem winV_apply (l : Fin 3) (k : Fin 2) (c : Dev nD) (q j : Fin 512) :
    winV m ρ l k c (ix2 q j) = stgWin m ρ l c (ix2 q (hid k j)) := by
  refine congrArg (stgWin m ρ l c) (funext fun a => Fin.ext ?_)
  match a with
  | ⟨0, _⟩ => show 0 + 1 * q.val = q.val; omega
  | ⟨1, _⟩ => show 512 * k.val + 1 * j.val = k.val * 512 + j.val; omega
theorem woutV_apply (l : Fin 3) (k : Fin 2) (c : Dev nD) (q j : Fin 512) :
    woutV m ρ l k c (ix2 q j) = stgWout m ρ l c (ix2 (hid k q) j) := by
  refine congrArg (stgWout m ρ l c) (funext fun a => Fin.ext ?_)
  match a with
  | ⟨0, _⟩ => show 512 * k.val + 1 * q.val = k.val * 512 + q.val; omega
  | ⟨1, _⟩ => show 0 + 1 * j.val = j.val; omega

/-- Where a block of columns and a block of rows lie in the whole arrays. -/
theorem block_cols {a : ℕ} (c : Dev nD) (v : (⟨2, ![a, 16384]⟩ : Shape).Idx → EReal) (h) (i : Fin a) (q : Fin 512) :
    Layout.block ⟨2, ![a, 512]⟩ ⟨2, ![a, 16384]⟩ 1 32 c v h (ix2 i q) = v (ix2 i (wide c q)) := by
  refine congrArg v (funext fun x => ?_)
  match x with
  | ⟨0, _⟩ => rfl
  | ⟨1, _⟩ => rfl
theorem block_rows {b : ℕ} (c : Dev nD) (v : (⟨2, ![16384, b]⟩ : Shape).Idx → EReal) (h) (q : Fin 512) (j : Fin b) :
    Layout.block ⟨2, ![512, b]⟩ ⟨2, ![16384, b]⟩ 0 32 c v h (ix2 q j) = v (ix2 (wide c q) j) := by
  refine congrArg v (funext fun x => ?_)
  match x with
  | ⟨0, _⟩ => rfl
  | ⟨1, _⟩ => rfl

/-! ## One layer -/

/-- How the activations and the two kinds of weights are cut: by columns, by rows, by columns. -/
theorem tiles_x : Layout.Tiles ⟨2, ![64, 512]⟩ ⟨2, ![64, 16384]⟩ 1 32 := by decide
theorem tiles_win : Layout.Tiles ⟨2, ![512, 1024]⟩ ⟨2, ![16384, 1024]⟩ 0 32 := by decide
theorem tiles_wout : Layout.Tiles ⟨2, ![1024, 512]⟩ ⟨2, ![1024, 16384]⟩ 1 32 := by decide

section Layer

variable (l : Fin 3) (X : Dev nD → FVec Ideal S64x512 .f32)
  (XX : FVec Ideal ⟨2, ![64, 16384]⟩ .f32) (WW : FVec Ideal ⟨2, ![16384, 1024]⟩ .f32) (VV : FVec Ideal ⟨2, ![1024, 16384]⟩ .f32)
  (hX : ∀ c : Dev nD, X c = Layout.block ⟨2, ![64, 512]⟩ ⟨2, ![64, 16384]⟩ 1 32 c XX tiles_x)
  (hW : ∀ c : Dev nD, stgWin m ρ l c = Layout.block ⟨2, ![512, 1024]⟩ ⟨2, ![16384, 1024]⟩ 0 32 c WW tiles_win)
  (hV : ∀ c : Dev nD, stgWout m ρ l c = Layout.block ⟨2, ![1024, 512]⟩ ⟨2, ![1024, 16384]⟩ 1 32 c VV tiles_wout)

include hX hW in
/-- After the exchange every device holds half `k` of the whole first product. -/
theorem layerSum_apply (k : Fin 2) (c : Dev nD) (i : Fin 64) (j : Fin 512) :
    layerSum m ρ X l k 5 c (ix2 i j) = (∑ p : Fin 16384, XX (ix2 i p) * WW (ix2 p (hid k j)) : EReal) := by
  unfold layerSum
  rw [sums_all, sum_wide]
  refine Finset.sum_congr rfl fun d _ => (mm_apply _ _ i j).trans (Finset.sum_congr rfl fun q _ => ?_)
  rw [winV_apply, hX d, hW d]
  exact congrArg₂ (· * ·) (block_cols d XX _ i q) (block_rows d WW _ q (hid k j))

/-- One half's contribution, element by element. -/
theorem outAdd_apply (o h : FVec Ideal S64x512 .f32) (w : FVec Ideal S512x512 .f32) (i : Fin 64) (j : Fin 512) :
    outAdd o h w (ix2 i j) = (o (ix2 i j) + ∑ q : Fin 512, max (h (ix2 i q)) 0 * w (ix2 q j) : EReal) := by
  refine congrArg (fun z : EReal => (o (ix2 i j) + z : EReal)) ((mm_apply _ _ i j).trans (Finset.sum_congr rfl fun q _ => ?_))
  show (max (h (ix2 i q)) (Ideal.ofBits .f32 0x00000000#32) * _ : EReal) = _
  rw [Ideal.ofBits_zero_f32]

include hX hW hV in
/-- A layer's result on a device, element by element: the reference's layer at the column where the device's
    block has it. -/
theorem layerOut_apply (c : Dev nD) (i : Fin 64) (j : Fin 512) :
    layerOut m ρ X l c (ix2 i j) = Cert.ReferenceIdeal.Mlp.layer XX WW VV (ix2 i (wide c j)) := by
  refine Eq.trans ?_ (Cert.ReferenceIdeal.Mlp.layer_apply XX WW VV i (wide c j)).symm
  rw [sum_hid, Fin.sum_univ_two]
  unfold layerOut
  rw [outAdd_apply, outAdd_apply]
  have hz : (zeros (F := Ideal) (ix2 i j) : EReal) = 0 := Ideal.ofBits_zero_f32
  have hk : ∀ k : Fin 2, (∑ q : Fin 512, max (layerSum m ρ X l k 5 c (ix2 i q)) 0 * woutV m ρ l k c (ix2 q j) : EReal)
      = (∑ q : Fin 512, max (∑ p : Fin 16384, XX (ix2 i p) * WW (ix2 p (hid k q))) 0 * VV (ix2 (hid k q) (wide c j)) : EReal) := fun k => by
    refine Finset.sum_congr rfl fun q _ => ?_
    rw [layerSum_apply m ρ l X XX WW hX hW, woutV_apply, hV c]
    exact congrArg (fun z : EReal => (max (∑ p : Fin 16384, XX (ix2 i p) * WW (ix2 p (hid k q))) 0 * z : EReal))
      (block_cols c VV _ (hid k q) j)
  rw [hz, zero_add]
  exact congrArg₂ (fun a b : EReal => a + b) (hk 0) (hk 1)

include hX hW hV in
/-- If a layer's input and weights are the blocks of whole arrays, its result on every device is that device's
    block of the reference's layer. -/
theorem layerOut_block (c : Dev nD) :
    layerOut m ρ X l c = Layout.block ⟨2, ![64, 512]⟩ ⟨2, ![64, 16384]⟩ 1 32 c (Cert.ReferenceIdeal.Mlp.layer XX WW VV) tiles_x := by
  funext x
  obtain ⟨i, j, rfl⟩ : ∃ (i : Fin 64) (j : Fin 512), x = ix2 i j := ⟨x 0, x 1, eq_ix2 x⟩
  exact (layerOut_apply m ρ l X XX WW VV hX hW hV c i j).trans (block_cols c _ _ i j).symm

end Layer

end Cert.KernelIdeal.Mlp

end
-- ==== Proof.Equation.lean ====
/- The equation: on every device the kernel ends with that device's block of the reference's result. -/
module

public import proofs.«01_k».proof.Proof.Frames
public import proofs.«01_k».proof.Proof.ReadBack
public import proofs.«01_k».proof.Proof.Sums

@[expose] public section

noncomputable section

namespace Cert.KernelIdeal.Mlp

open Idealize.ShloMosaic Idealize.ShloMosaic.TcCoe
open Idealize.SL.Sem
open Cert.KernelIdeal.Gen

/-- The kernel's run over any float values leaves the third layer's result, and its arguments as they were. -/
theorem run_acts {F : FTy → Type} [FloatOps F] (m : (ℓ : Loc nD τ sig) → Buf (Elt F) ℓ) (ρ : Dev nD → PrngReg) :
    θ_run defs (onTc (τ := τ) (main (F := F))) ⟨m, fun _ => 0, ρ⟩
      fun r => ∀ c : Dev nD, r.2.mem ((c.tc : Thread nD τ).loc main_v1) = acts m ρ 3 c ∧ Kept m r c :=
  (θ_run defs _ _).mono (fun _ h c => ⟨(h.1 c 7).trans (finalA_out m ρ c), kept m ρ h.1 c⟩) (run_main m ρ)

/-- The kernel and the reference, from memories whose arguments are the blocks of the reference's: the reference
    ends with its three layers' result, and each device with its block of it. -/
theorem equation : Cert.algebraic_KernelIdeal_ReferenceIdeal := fun m ρ m' ρ' _ hm => by
  refine ⟨Cert.ReferenceIdeal.Mlp.result m' 0, ?_, ?_⟩
  · refine (θ_run defs _ _).mono (fun _ h c => ⟨(h c).1.trans ?_, (h c).2⟩) (run_acts m ρ)
    have h0 (d : Dev nD) := (stgX_eq m ρ d).trans (hm d).1
    have h1 (d : Dev nD) := layerOut_block m ρ 0 (acts m ρ 0) _ _ _
      (fun d => (shapeCast_self _ _).trans (h0 d))
      (fun d => (stgWin_eq m ρ 0 d).trans (hm d).2.1) (fun d => (stgWout_eq m ρ 0 d).trans (hm d).2.2.2.2.1) d
    have h2 (d : Dev nD) := layerOut_block m ρ 1 (acts m ρ 1) _ _ _ h1
      (fun d => (stgWin_eq m ρ 1 d).trans (hm d).2.2.1) (fun d => (stgWout_eq m ρ 1 d).trans (hm d).2.2.2.2.2.1) d
    exact layerOut_block m ρ 2 (acts m ρ 2) _ _ _ h2
      (fun d => (stgWin_eq m ρ 2 d).trans (hm d).2.2.2.1) (fun d => (stgWout_eq m ρ 2 d).trans (hm d).2.2.2.2.2.2) c
  · exact (θ_run Cert.ReferenceIdeal.defs _ _).mono (fun _ h => h 0) (Cert.ReferenceIdeal.Mlp.run_result m' ρ')

end Cert.KernelIdeal.Mlp

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.RefFrame
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KernelIdeal.Mlp.frame_kernel, Cert.KernelIdeal.Mlp.frame_ideal, Cert.ReferenceIdeal.Mlp.frame_reference, trivial,
  Cert.KernelIdeal.Mlp.equation⟩

end Cert.Proof

end
